-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3D888889#32 ((15⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S16384 : Shape := ⟨1, ![16384]⟩
abbrev S32x1x512 : Shape := ⟨3, ![32, 1, 512]⟩
abbrev S512x1000 : Shape := ⟨2, ![512, 1000]⟩
abbrev S1x1x512 : Shape := ⟨3, ![1, 1, 512]⟩
abbrev S512 : Shape := ⟨1, ![512]⟩
abbrev S512x1 : Shape := ⟨2, ![512, 1]⟩
abbrev S128x16 : Shape := ⟨2, ![128, 16]⟩
abbrev S1024 : Shape := ⟨1, ![1024]⟩
abbrev S8x16 : Shape := ⟨2, ![8, 16]⟩
abbrev S16 : Shape := ⟨1, ![16]⟩
abbrev S_ : Shape := ⟨0, ![]⟩
abbrev S1 : Shape := ⟨1, ![1]⟩
abbrev S1x16 : Shape := ⟨2, ![1, 16]⟩
abbrev S1x1 : Shape := ⟨2, ![1, 1]⟩

abbrev nBuf : Table → Nat
  | .hbm => 9
  | .local .tc .vmem => 9
  | .local .tc .smem => 1
  | .local .scVector .vmem => 3
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S32x1x512, .i32⟩
  | .hbm, ⟨3, _⟩ => ⟨S32x1x512, .f32⟩
  | .hbm, ⟨4, _⟩ => ⟨S32x1x512, .f32⟩
  | .hbm, ⟨5, _⟩ => ⟨S16384, .f32⟩
  | .hbm, ⟨6, _⟩ => ⟨S16384, .f32⟩
  | .hbm, ⟨7, _⟩ => ⟨S128x16, .f32⟩
  | .hbm, ⟨8, _⟩ => ⟨S1, .f32⟩
  | .local .tc .vmem, ⟨0, _⟩ => ⟨S512x1000, .f32⟩
  | .local .tc .vmem, ⟨1, _⟩ => ⟨S512x1000, .f32⟩
  | .local .tc .vmem, ⟨2, _⟩ => ⟨S1x1x512, .i32⟩
  | .local .tc .vmem, ⟨3, _⟩ => ⟨S1x1x512, .i32⟩
  | .local .tc .vmem, ⟨4, _⟩ => ⟨S1x1x512, .f32⟩
  | .local .tc .vmem, ⟨5, _⟩ => ⟨S1x1x512, .f32⟩
  | .local .tc .vmem, ⟨6, _⟩ => ⟨S1x1x512, .f32⟩
  | .local .tc .vmem, ⟨7, _⟩ => ⟨S1x1x512, .f32⟩
  | .local .tc .vmem, ⟨8, _⟩ => ⟨S128x16, .f32⟩
  | .local .tc .smem, ⟨0, _⟩ => ⟨S1, .f32⟩
  | .local .scVector .vmem, ⟨0, _⟩ => ⟨S1024, .f32⟩
  | .local .scVector .vmem, ⟨1, _⟩ => ⟨S1024, .f32⟩
  | .local .scVector .vmem, ⟨2, _⟩ => ⟨S8x16, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 11
abbrev cc2_sem1_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_7 : BitVec 32 := 0#32
  let v23 : BitVec 1 := Scalar.cmpi .ne v22 c0_i32_7
  v23

def k1_off1 (i : grid1.Coords) : Fin 1 → Nat :=
  let arg1 : BitVec 32 := BitVec.ofNat 32 (i 1).val
  let c1024_i32 : BitVec 32 := 1024#32
  let v24 : BitVec 32 := Scalar.muli arg1 c1024_i32
  ![v24.toNat]
@[reducible] def k1_t1_loop : Scf.Loop 32 :=
  let c0_i32_8 : BitVec 32 := 0#32
  let c64_i32 : BitVec 32 := 64#32
  let v25 : BitVec 32 := Scalar.addi c0_i32_8 c64_i32
  let c1_i32 : BitVec 32 := 1#32
  ⟨c0_i32_8, v25, c1_i32⟩
def k1_mult1 (k1_t1 : Fin k1_t1_loop.trips) : BitVec 32 :=
  let c0_i32_8 : BitVec 32 := 0#32
  let c1_i32 : BitVec 32 := 1#32
  let arg8 : BitVec 32 := Scf.iv c0_i32_8 c1_i32 k1_t1
  let c16_i32 : BitVec 32 := 16#32
  let v60 : BitVec 32 := Scalar.muli arg8 c16_i32
  v60
def k1_off2 (k1_t1 : Fin k1_t1_loop.trips) : Fin 1 → Nat :=
  let c0_i32_8 : BitVec 32 := 0#32
  let c1_i32 : BitVec 32 := 1#32
  let arg8 : BitVec 32 := Scf.iv c0_i32_8 c1_i32 k1_t1
  let c16_i32 : BitVec 32 := 16#32
  let v60 : BitVec 32 := Scalar.muli arg8 c16_i32
  let v61 : BitVec 32 := v60
  let v62 : Index := Scalar.indexCast v61
  ![v62.toNat]
def k1_off3 (i : grid1.Coords) : Fin 2 → Nat :=
  let arg1 : BitVec 32 := BitVec.ofNat 32 (i 1).val
  let c8_i32 : BitVec 32 := 8#32
  let v59 : BitVec 32 := Scalar.muli arg1 c8_i32
  let c0_i32_19_r2 : BitVec 32 := 0#32
  ![v59.toNat, 0]
abbrev grid2 : Pipeline.Grid := .none

abbrev stage2_0 : Fin 1 → Memref sig .tc .vmem S128x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "step" => some ((15⁻¹ : ℝ) : EReal)
  | _ => none
-- ==== ReferenceIdeal.lean ====
abbrev S16384x1000 : Shape := ⟨2, ![16384, 1000]⟩
abbrev S16384 : Shape := ⟨1, ![16384]⟩
abbrev S_ : Shape := ⟨0, ![]⟩
abbrev S15 : Shape := ⟨1, ![15]⟩
abbrev S1 : Shape := ⟨1, ![1]⟩
abbrev S16 : Shape := ⟨1, ![16]⟩
abbrev S1x16384 : Shape := ⟨2, ![1, 16384]⟩
abbrev S15x1 : Shape := ⟨2, ![15, 1]⟩
abbrev S15x16384 : Shape := ⟨2, ![15, 16384]⟩

abbrev nBuf : Space → Nat
  | .hbm => 81
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S16384x1000, .i32⟩
  | .hbm, ⟨5, _⟩ => ⟨S_, .f32⟩
  | .hbm, ⟨6, _⟩ => ⟨S_, .i32⟩
  | .hbm, ⟨7, _⟩ => ⟨S16384, .f32⟩
  | .hbm, ⟨8, _⟩ => ⟨S16384, .i32⟩
  | .hbm, ⟨9, _⟩ => ⟨S16384, .i1⟩
  | .hbm, ⟨10, _⟩ => ⟨S16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S15, .f32⟩
  | .hbm, ⟨19, _⟩ => ⟨S_, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S_, .f32⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S1, .f32⟩
  | .hbm, ⟨29, _⟩ => ⟨S15, .f32⟩
  | .hbm, ⟨30, _⟩ => ⟨S15, .f32⟩
  | .hbm, ⟨31, _⟩ => ⟨S15, .f32⟩
  | .hbm, ⟨32, _⟩ => ⟨S1, .f32⟩
  | .hbm, ⟨33, _⟩ => ⟨S16, .f32⟩
  | .hbm, ⟨34, _⟩ => ⟨S15, .f32⟩
  | .hbm, ⟨35, _⟩ => ⟨S15, .f32⟩
  | .hbm, ⟨36, _⟩ => ⟨S1x16384, .f32⟩
  | .hbm, ⟨37, _⟩ => ⟨S15x1, .f32⟩
  | .hbm, ⟨38, _⟩ => ⟨S15x16384, .f32⟩
  | .hbm, ⟨39, _⟩ => ⟨S15x16384, .f32⟩
  | .hbm, ⟨40, _⟩ => ⟨S15x16384, .i1⟩
  | .hbm, ⟨41, _⟩ => ⟨S1x16384, .f32⟩
  | .hbm, ⟨42, _⟩ => ⟨S15x1, .f32⟩
  | .hbm, ⟨43, _⟩ => ⟨S15x16384, .f32⟩
  | .hbm, ⟨44, _⟩ => ⟨S15x16384, .f32⟩
  | .hbm, ⟨45, _⟩ => ⟨S15x16384, .i1⟩
  | .hbm, ⟨46, _⟩ => ⟨S15x16384, .i1⟩
  | .hbm, ⟨47, _⟩ => ⟨S15x16384, .f32⟩
  | .hbm, ⟨48, _⟩ => ⟨S_, .f32⟩
  | .hbm, ⟨49, _⟩ => ⟨S15, .f32⟩
  | .hbm, ⟨50, _⟩ => ⟨S_, .f32⟩
  | .hbm, ⟨51, _⟩ => ⟨S15, .f32⟩
  | .hbm, ⟨52, _⟩ => ⟨S15, .f32⟩
  | .hbm, ⟨53, _⟩ => ⟨S_, .f32⟩
  | .hbm, ⟨54, _⟩ => ⟨S15, .f32⟩
  | .hbm, ⟨55, _⟩ => ⟨S15, .f32⟩
  | .hbm, ⟨56, _⟩ => ⟨S1x16384, .f32⟩
  | .hbm, ⟨57, _⟩ => ⟨S15x16384, .f32⟩
  | .hbm, ⟨58, _⟩ => ⟨S15x16384, .f32⟩
  | .hbm, ⟨59, _⟩ => ⟨S_, .f32⟩
  | .hbm, ⟨60, _⟩ => ⟨S15, .f32⟩
  | .hbm, ⟨61, _⟩ => ⟨S15, .f32⟩
  | .hbm, ⟨62, _⟩ => ⟨S1x16384, .f32⟩
  | .hbm, ⟨63, _⟩ => ⟨S15x16384, .f32⟩
  | .hbm, ⟨64, _⟩ => ⟨S15x16384, .f32⟩
  | .hbm, ⟨65, _⟩ => ⟨S_, .f32⟩
  | .hbm, ⟨66, _⟩ => ⟨S15, .f32⟩
  | .hbm, ⟨67, _⟩ => ⟨S15, .f32⟩
  | .hbm, ⟨68, _⟩ => ⟨S15, .f32⟩
  | .hbm, ⟨69, _⟩ => ⟨S15, .f32⟩
  | .hbm, ⟨70, _⟩ => ⟨S15, .f32⟩
  | .hbm, ⟨71, _⟩ => ⟨S_, .f32⟩
  | .hbm, ⟨72, _⟩ => ⟨S15, .f32⟩
  | .hbm, ⟨73, _⟩ => ⟨S15, .i1⟩
  | .hbm, ⟨74, _⟩ => ⟨S_, .f32⟩
  | .hbm, ⟨75, _⟩ => ⟨S_, .f32⟩
  | .hbm, ⟨76, _⟩ => ⟨S15, .f32⟩
  | .hbm, ⟨77, _⟩ => ⟨S15, .f32⟩
  | .hbm, ⟨78, _⟩ => ⟨S_, .f32⟩
  | .hbm, ⟨79, _⟩ => ⟨S_, .f32⟩
  | .hbm, ⟨80, _⟩ => ⟨S1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_cst : Ref sig .tc := ⟨.hbm, 16, rfl⟩
abbrev main_call1_v3 : Ref sig .tc := ⟨.hbm, 17, rfl⟩
abbrev main_call1_v4 : Ref sig .tc := ⟨.hbm, 18, rfl⟩
abbrev main_call1_cst_0 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_cst_1 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_v15 : Ref sig .tc := ⟨.hbm, 31, rfl⟩
abbrev main_call1_v16 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_cst_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩

abbrev nD : Nat := 1
abbrev τ : Topo := Topo.v7x

variable {F : FTy → Type} [FloatOps F]
-- ==== Proof.KernelIdeal.Common.lean ====
/-
  What the parts of the kernel's run share: the program as the launch theorem sees it, the resource algebra (the
  handshakes' rounds, the staging cells' rounds, the transfers' counters), and the values the SparseCore tiles compute:
  one trip of a tile's loop (`trip`), its accumulators after `k` trips (`accs`), the eight rows it writes out
  (`tileHist`) and the whole histogram (`hist`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.FrameBody
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds
open Idealize.ShloMosaic.ValueIdx (ix1 ix2)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the staging cells' rounds. -/
abbrev UH : Type := URounds (GSem nD τ sig) ℕ
abbrev UP : Type := UR sig nD τ
abbrev UU : Type := UH × (UP × Counters)

abbrev EH : Emb UH (MT nD τ sig (HIx 1) (Elt F) ℕ UU ℕ) := embL
abbrev ER : Emb (UP × Counters) (MT nD τ sig (HIx 1) (Elt F) ℕ UU ℕ) := embR
def EP : Emb UP (MT nD τ sig (HIx 1) (Elt F) ℕ UU ℕ) := (Emb.inl : Emb UP (UP × Counters)).trans ER

instance EP_landsIn : (EP (F := F)).LandsIn (upEmb : UEmb _ (MT nD τ sig (HIx 1) (Elt F) ℕ UU ℕ)) := by
  unfold EP ER embR; infer_instance

/-! ## The values of a tile -/

/-- The three accumulators of a tile's loop: how many elements fell into each bin, the sum of their accuracies, the sum
    of their confidences. -/
abbrev Acc (F : FTy → Type) : Type := FVec F S16 .f32 × FVec F S16 .f32 × FVec F S16 .f32

variable [FloatOps F] [Named F]

/-- One trip: sixteen confidences `v63` and accuracies `v66` added to the accumulators, one after the other. -/
def trip (v63 v66 : Vec F S16 .f32) (a : Acc F) : Acc F :=
  let v8 := k1_pay3 (F := F); let v20 := k1_pay4 (F := F)
  let v64 := k1_pay8 v63; let v67 := k1_pay9 v66
  let v99 := k1_pay14 v8 v20 a.1 v63; let v102 := k1_pay15 v8 v20 a.2.1 v63 v66; let v105 := k1_pay16 v8 v20 a.2.2 v63
  let v107 := k1_pay17 v63; let v109 := k1_pay18 v66; let v111 := k1_pay19 v8 v63; let v113 := k1_pay20 v20 v63
  let v156 := k1_pay26 v8 v20 v64 v99 v111 v113; let v159 := k1_pay27 v8 v20 v64 v67 v102 v109 v111 v113
  let v162 := k1_pay28 v8 v20 v64 v105 v107 v111 v113
  let v164 := k1_pay29 v64; let v166 := k1_pay30 v67; let v167 := k1_pay31 v64
  let v213 := k1_pay37 v8 v20 v64 v156 v164 v167; let v216 := k1_pay38 v8 v20 v64 v67 v159 v164 v166 v167
  let v219 := k1_pay39 v8 v20 v64 v162 v164 v167; let v221 := k1_pay40 v64
  let v257 := k1_pay44 v8 v20 v64 v219 v221; let v270 := k1_pay47 v8 v20 v64 v213 v221
  let v273 := k1_pay48 v8 v20 v64 v67 v216 v221; let v275 := k1_pay49 v8 v20 v64
  let v311 := k1_pay54 v8 v20 v64 v67 v273; let v314 := k1_pay55 v8 v20 v64 v257 v275; let v316 := k1_pay56 v64
  let v326 := k1_pay57 v8 v20 v64; let v327 := k1_pay58 v8 v20 v64 v270; let v329 := k1_pay59 v8 v20 v64 v67
  (k1_pay64 v8 v20 v64 v327, k1_pay65 v8 v20 v64 v67 v311 v329, k1_pay66 v8 v20 v64 v314 v316 v326)

omit [FloatOps F] [Named F] in
theorem off2_inb (k : Fin k1_t1_loop.trips) : ∀ a, (k1_off2 k) a + S16.size a ≤ S1024.size a := by
  have r : k.val < 64 := Nat.lt_of_lt_of_le k.isLt k1_t1_abs.2.1
  rw [k1_off2_eq]; intro a
  match a with
  | 0 => show 16 * k.val + 16 ≤ 1024; omega

/-- Sixteen elements of a tile's chunk, those trip `k` reads. -/
abbrev rT (k : Fin k1_t1_loop.trips) : Rect S1024 := Rect.unit (s := S1024) (k1_off2 k) S16.size (off2_inb k)

/-- The accumulators before trip `k`, over the tile's chunks `x` of confidences and `y` of accuracies. -/
def accs (x y : S1024.Idx → F .f32) : ℕ → Acc F
  | 0 => (k1_pay1, k1_pay1, k1_pay1)
  | k + 1 => if h : k < k1_t1_loop.trips then trip (View.ld (Val := Elt F) (e' := .f32) x (rT ⟨k, h⟩)) (View.ld (Val := Elt F) (e' := .f32) y (rT ⟨k, h⟩)) (accs x y k) else accs x y k

abbrev row0 : Rect S8x16 := Rect.unit (s := S8x16) ![0, 0] S1x16.size inb_S8x16_S1x16_0_0
abbrev row1 : Rect S8x16 := Rect.unit (s := S8x16) ![1, 0] S1x16.size inb_S8x16_S1x16_1_0
abbrev row2 : Rect S8x16 := Rect.unit (s := S8x16) ![2, 0] S1x16.size inb_S8x16_S1x16_2_0
abbrev row3 : Rect S8x16 := Rect.unit (s := S8x16) ![3, 0] S1x16.size inb_S8x16_S1x16_3_0
abbrev row4 : Rect S8x16 := Rect.unit (s := S8x16) ![4, 0] S1x16.size inb_S8x16_S1x16_4_0
abbrev row5 : Rect S8x16 := Rect.unit (s := S8x16) ![5, 0] S1x16.size inb_S8x16_S1x16_5_0
abbrev row6 : Rect S8x16 := Rect.unit (s := S8x16) ![6, 0] S1x16.size inb_S8x16_S1x16_6_0
abbrev row7 : Rect S8x16 := Rect.unit (s := S8x16) ![7, 0] S1x16.size inb_S8x16_S1x16_7_0

/-- The eight rows a tile writes: the three accumulators and five rows of zeros. -/
def tileHist (x y : S1024.Idx → F .f32) : S8x16.Idx → F .f32 :=
  let a := accs x y k1_t1_loop.trips
  View.canon (Val := Elt F) (e := EltTy.f32) [⟨row7, k1_pay7⟩, ⟨row6, k1_pay6⟩, ⟨row5, k1_pay5⟩, ⟨row4, k1_pay71 k1_pay1⟩, ⟨row3, k1_pay70 k1_pay1⟩,
    ⟨row2, k1_pay69 a.2.2⟩, ⟨row1, k1_pay68 a.2.1⟩, ⟨row0, k1_pay67 a.1⟩]

theorem xdiv : 16 ∣ S16384.size 0 := ⟨1024, rfl⟩
theorem hdiv : 16 ∣ S128x16.size 0 := ⟨8, rfl⟩
/-- Tile `i`'s chunk of the confidences (of the accuracies); its rows of the histogram. -/
abbrev xrow (i : Fin 16) : Rect S16384 := Rect.part (s := S16384) (a₀ := 0) xdiv i
abbrev hrow (i : Fin 16) : Rect S128x16 := Rect.part (s := S128x16) (a₀ := 0) hdiv i

/-- Tile `s`'s chunk of an array of 16384. -/
def chunk (X : S16384.Idx → F .f32) (s : Fin 16) : S1024.Idx → F .f32 := fun j => X (ix1 (⟨1024 * s.val + (j 0).val, by
  have h : (j 0).val < 1024 := (j 0).isLt
  omega⟩ : Fin 16384))

/-- The whole histogram: rows `8 s` to `8 s + 7` are tile `s`'s. -/
def hist (X Y : S16384.Idx → F .f32) : S128x16.Idx → F .f32 := fun i =>
  let s : Fin 16 := ⟨(i 0).val / 8, by have h : (i 0).val < 128 := (i 0).isLt; omega⟩
  tileHist (chunk X s) (chunk Y s) (ix2 (⟨(i 0).val % 8, Nat.mod_lt _ (by decide)⟩ : Fin 8) (i 1 : Fin 16))

end Cert.Proof.KernelIdealRun

end
-- ==== Proof.KernelIdeal.Tile.lean ====
/-
  A SparseCore tile's task. On SparseCore 0 tile `s` fetches its chunk of the confidences and of the accuracies, folds
  the 64 trips of its loop over them, writes the eight rows of its part of the histogram and copies them out; on
  SparseCore 1 it does nothing. `tileBody₀` and `tileBody₁` run the task once at a symbolic tile, the contents of the
  rows it leaves carried through (`hist`).
-/
module

public import proofs.«01_k».proof.Proof.KernelIdeal.Common

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Tactic

variable {F : FTy → Type}

local notation "𝕄" => MT nD τ sig (HIx 1) (Elt F) ℕ UU ℕ

/-! ## The arrays and the scratch -/

abbrev xLoc (d : Dev nD) : Loc nD τ sig := (SparseCore.T d).loc main_v2
abbrev yLoc (d : Dev nD) : Loc nD τ sig := (SparseCore.T d).loc main_v3
abbrev hLoc (d : Dev nD) : Loc nD τ sig := (SparseCore.T d).loc main_v4

local notation "xV" => (Memref.whole Cert.KernelIdeal.main_v2_scv : Memref Cert.KernelIdeal.sig Kind.scVector Space.hbm Cert.KernelIdeal.S16384 EltTy.f32)
local notation "yV" => (Memref.whole Cert.KernelIdeal.main_v3_scv : Memref Cert.KernelIdeal.sig Kind.scVector Space.hbm Cert.KernelIdeal.S16384 EltTy.f32)
local notation "hV" => (Memref.whole Cert.KernelIdeal.main_v4_scv : Memref Cert.KernelIdeal.sig Kind.scVector Space.hbm Cert.KernelIdeal.S128x16 EltTy.f32)
local notation "aV" => (Memref.whole Cert.KernelIdeal.cc1_scratch0 : Memref Cert.KernelIdeal.sig Kind.scVector Space.vmem Cert.KernelIdeal.S1024 EltTy.f32)
local notation "bV" => (Memref.whole Cert.KernelIdeal.cc1_scratch1 : Memref Cert.KernelIdeal.sig Kind.scVector Space.vmem Cert.KernelIdeal.S1024 EltTy.f32)
local notation "cV" => (Memref.whole Cert.KernelIdeal.cc1_scratch2 : Memref Cert.KernelIdeal.sig Kind.scVector Space.vmem Cert.KernelIdeal.S8x16 EltTy.f32)

abbrev xSet (i : Fin 16) : Finset S16384.Idx := ((xV).view.slice (xrow i)).set
abbrev ySet (i : Fin 16) : Finset S16384.Idx := ((yV).view.slice (xrow i)).set
abbrev hSet (i : Fin 16) : Finset S128x16.Idx := ((hV).view.slice (hrow i)).set

section Tile

variable (d : Dev nD) (L : grid1.Coords)

abbrev cL : Fin τ.nSC := (L 0).castLE hcore1
abbrev jL : Fin τ.nSub := (L 1).castLE hsub1
theorem bound_one : grid1.bound 1 = 16 := rfl
abbrev sL : Fin 16 := Fin.cast bound_one (L 1)

theorem cond_iff : ∀ L : grid1.Coords, k1_cond1 L = 1#1 ↔ (L 0).val = 0 := by decide +kernel

/-- The tile's thread. -/
abbrev thr : Thread nD τ := V d (cL L) (jL L)

variable (h1 : k1_cond1 L = 1#1)

abbrev xrowK : Rect S16384 := Rect.unit (s := S16384) (k1_off1 L) S1024.size (k1_off1_inb L h1)
abbrev hrowK : Rect S128x16 := Rect.unit (s := S128x16) (k1_off3 L) S8x16.size (k1_off3_inb L h1)
abbrev xK : Memref sig .scVector .hbm S1024 .f32 := (xV).slice (xrowK L h1) (fun _ => rfl)
abbrev yK : Memref sig .scVector .hbm S1024 .f32 := (yV).slice (xrowK L h1) (fun _ => rfl)
abbrev hK : Memref sig .scVector .hbm S8x16 .f32 := (hV).slice (hrowK L h1) (fun _ => rfl)

theorem xrowK_eq : xrowK L h1 = xrow (sL L) := by
  unfold xrowK xrow Rect.part Rect.block
  congr 1 <;> funext a
  · rw [k1_off1_eq]
    match a with
    | 0 => simp [Shape.partIx, Shape.partSize]; omega
  · match a with
    | 0 => simp [Shape.partSize]
theorem hrowK_eq : hrowK L h1 = hrow (sL L) := by
  unfold hrowK hrow Rect.part Rect.block
  congr 1 <;> funext a
  · rw [k1_off3_eq]
    match a with
    | 0 => simp [Shape.partIx, Shape.partSize]; omega
    | 1 => simp [Shape.partIx, Shape.partSize]
  · match a with
    | 0 => simp [Shape.partSize]
    | 1 => simp [Shape.partSize]

theorem set_xK : (xK L h1).view.set = xSet (sL L) := by
  show ((xV).view.slice (xrowK L h1)).set = ((xV).view.slice (xrow (sL L))).set
  exact xrowK_eq L h1 ▸ rfl
theorem set_yK : (yK L h1).view.set = ySet (sL L) := by
  show ((yV).view.slice (xrowK L h1)).set = ((yV).view.slice (xrow (sL L))).set
  exact xrowK_eq L h1 ▸ rfl
theorem set_hK : (hK L h1).view.set = hSet (sL L) := by
  show ((hV).view.slice (hrowK L h1)).set = ((hV).view.slice (hrow (sL L))).set
  exact hrowK_eq L h1 ▸ rfl

theorem pts_xK (f : Buf (Elt F) (xLoc d)) :
    ((xK L h1).view.loc (thr d L) ↦[(xK L h1).view.set]{fullShare} f : sProp 𝕄) = xLoc d ↦[xSet (sL L)]{fullShare} f := by rw [set_xK]
theorem pts_yK (f : Buf (Elt F) (yLoc d)) :
    ((yK L h1).view.loc (thr d L) ↦[(yK L h1).view.set]{fullShare} f : sProp 𝕄) = yLoc d ↦[ySet (sL L)]{fullShare} f := by rw [set_yK]
theorem pts_hK (f : Buf (Elt F) (hLoc d)) :
    ((hK L h1).view.loc (thr d L) ↦[(hK L h1).view.set]{fullShare} f : sProp 𝕄) = hLoc d ↦[hSet (sL L)]{fullShare} f := by rw [set_hK]
theorem pts_aV (f : Buf (Elt F) ((thr d L).loc cc1_scratch0)) :
    ((aV).view.loc (thr d L) ↦{fullShare} f : sProp 𝕄) = (thr d L).loc cc1_scratch0 ↦{fullShare} f := rfl
theorem pts_bV (f : Buf (Elt F) ((thr d L).loc cc1_scratch1)) :
    ((bV).view.loc (thr d L) ↦{fullShare} f : sProp 𝕄) = (thr d L).loc cc1_scratch1 ↦{fullShare} f := rfl
theorem pts_cV (f : Buf (Elt F) ((thr d L).loc cc1_scratch2)) :
    ((cV).view.loc (thr d L) ↦{fullShare} f : sProp 𝕄) = (thr d L).loc cc1_scratch2 ↦{fullShare} f := rfl

abbrev cell0 : GSem nD τ sig := (thr d L, .dma cc1_scoped0.sem)
abbrev cell1 : GSem nD τ sig := (thr d L, .dma cc1_scoped1.sem)
abbrev cell2 : GSem nD τ sig := (thr d L, .dma cc1_scoped2.sem)

/-- The three semaphores of the tile's copies, out of its own; -/
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩)]

/-- and its three scratch buffers, at some contents. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cL L) (jL L))).erase ((Proc.scVector (cL L) (jL L)).devRef cc1_scratch0)).erase
              ((Proc.scVector (cL L) (jL L)).devRef cc1_scratch1)).erase ((Proc.scVector (cL L) (jL L)).devRef cc1_scratch2))
              fun b => iprop(∃ f, ((d, b) : Loc nD τ sig) ↦{fullShare} f)) := by
  unfold SparseCore.Cfg.ownBufs
  have hm : ∀ r : Ref sig .scVector, ((Proc.scVector (τ := τ) (cL L) (jL L)).devRef r).owner = _ → (Proc.scVector (cL L) (jL L)).devRef r ∈ ownRefs (τ := τ) (.scVector (cL L) (jL L)) :=
    fun r h => SparseCore.Cfg.mem_ownRefs_of_owner (p := Proc.scVector (cL L) (jL L)) (b := (Proc.scVector (cL L) (jL L)).devRef r) h
  have hne : ∀ r r' : Ref sig .scVector, r ≠ r' → (Proc.scVector (τ := τ) (cL L) (jL L)).devRef r ≠ (Proc.scVector (cL L) (jL L)).devRef r' :=
    fun r r' h e => absurd (Proc.devRef_injective _ e) h
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide), Finset.mem_erase.mpr ⟨hne cc1_scratch2 cc1_scratch0 (by decide), hm cc1_scratch2 rfl⟩⟩)]

variable [FloatOps F] [Named F] (X Y : S16384.Idx → F .f32)

/-- The tile's chunks as its scratch holds them. -/
abbrev xc : S1024.Idx → F .f32 := chunk X (sL L)
abbrev yc : S1024.Idx → F .f32 := chunk Y (sL L)

/-- What the tile is given and, on its return, what it gives back. -/
abbrev tileGo (s : Fin 16) : sProp 𝕄 := iprop((xLoc d ↦[xSet s]{fullShare} X) ∗ (yLoc d ↦[ySet s]{fullShare} Y) ∗ ∃ f, hLoc d ↦[hSet s]{fullShare} f)
abbrev tileTd (s : Fin 16) : sProp 𝕄 := iprop((xLoc d ↦[xSet s]{fullShare} X) ∗ (yLoc d ↦[ySet s]{fullShare} Y) ∗ (hLoc d ↦[hSet s]{fullShare} hist X Y))

/-- Before trip `k`: the chunks in scratch, the accumulators those of `k` trips. -/
def inv (O : CellTallies nD τ sig (HIx 1)) (k : Nat) (acc : Acc F) : sProp 𝕄 :=
  iprop(Transfers.MayWaits (thr d L) (none : HIx 1) O
    ∗ ((aV).view.loc (thr d L) ↦{fullShare} xc L X)
    ∗ ((bV).view.loc (thr d L) ↦{fullShare} yc L Y)
    ∗ ⌜acc = accs (F := F) (xc L X) (yc L Y) k⌝)

/-- What a copy of the tile's chunk leaves in scratch. -/
theorem pts_landed_x (fa : Buf (Elt F) ((thr d L).loc cc1_scratch0)) (pay : S1024.Idx → Elt F .f32) (hp : pay = (xK L h1).view.read (Elt F) X) :
    ((aV).view.loc (thr d L) ↦{fullShare} View.write (Elt F) (aV).view fa pay Finset.univ : sProp 𝕄) = (aV).view.loc (thr d L) ↦{fullShare} xc L X := by
  subst hp
  rw [View.write_whole_univ]
  congr 1
  funext j
  refine (View.read_apply _ _).trans ((cast_eq _ _).trans (congrArg X ?_))
  funext a
  match a with
  | ⟨0, _⟩ =>
    apply Fin.ext
    show (k1_off1 L) 0 + 1 * (j 0).val = 1024 * (L 1).val + (j 0).val
    rw [k1_off1_eq, Nat.one_mul]; rfl
theorem pts_landed_y (fb : Buf (Elt F) ((thr d L).loc cc1_scratch1)) (pay : S1024.Idx → Elt F .f32) (hp : pay = (yK L h1).view.read (Elt F) Y) :
    ((bV).view.loc (thr d L) ↦{fullShare} View.write (Elt F) (bV).view fb pay Finset.univ : sProp 𝕄) = (bV).view.loc (thr d L) ↦{fullShare} yc L Y := by
  subst hp
  rw [View.write_whole_univ]
  congr 1
  funext j
  refine (View.read_apply _ _).trans ((cast_eq _ _).trans (congrArg Y ?_))
  funext a
  match a with
  | ⟨0, _⟩ =>
    apply Fin.ext
    show (k1_off1 L) 0 + 1 * (j 0).val = 1024 * (L 1).val + (j 0).val
    rw [k1_off1_eq, Nat.one_mul]; rfl

/-- The histogram at a row of tile `s`. -/
theorem hist_apply (s : Fin 16) (i : S128x16.Idx) (j : S8x16.Idx) (e0 : (i 0).val = 8 * s.val + (j 0).val) (e1 : (i 1).val = (j 1).val) :
    hist X Y i = tileHist (chunk X s) (chunk Y s) j := by
  have hj : (j 0).val < 8 := (j 0).isLt
  have es : ∀ h, (⟨(i 0).val / 8, h⟩ : Fin 16) = s := fun h => Fin.ext (show (i 0).val / 8 = s.val by omega)
  have ej : ∀ h, j = ix2 (⟨(i 0).val % 8, h⟩ : Fin 8) (i 1 : Fin 16) := fun h => by
    funext a
    match a with
    | ⟨0, _⟩ => exact Fin.ext (show (j 0).val = (i 0).val % 8 by omega)
    | ⟨1, _⟩ => exact Fin.ext e1.symm
  unfold hist
  dsimp only
  rw [es]
  exact congrArg _ (ej _).symm

/-- The histogram's rows after the copy out of a tile's eight rows. -/
theorem pts_out (fh : Buf (Elt F) (hLoc d)) (pay : S8x16.Idx → Elt F .f32) (hp : pay = tileHist (xc L X) (yc L Y)) :
    ((hK L h1).view.loc (thr d L) ↦[(hK L h1).view.set]{fullShare} (hK L h1).view.writes (Elt F) fh [⟨Rect.whole S8x16, pay⟩] : sProp 𝕄)
      = hLoc d ↦[hSet (sL L)]{fullShare} hist X Y := by
  subst hp
  rw [← pts_hK d L h1]
  refine pointsTo_congr fun i hi => ?_
  obtain ⟨j, -, rfl⟩ := Finset.mem_map.mp hi
  have hr := congrFun (View.read_writes_whole (Val := Elt F) (hK L h1).view fh (tileHist (xc L X) (yc L Y))) j
  rw [View.read_apply] at hr
  refine ((cast_eq _ _).symm.trans hr).trans ?_
  have e0 : ((hK L h1).view.emb j 0).val = 8 * (L 1).val + (j 0).val := by
    show (k1_off3 L) 0 + 1 * (j 0).val = _
    rw [k1_off3_eq, Nat.one_mul]; rfl
  have e1 : ((hK L h1).view.emb j 1).val = (j 1).val := by
    show (k1_off3 L) 1 + 1 * (j 1).val = _
    rw [k1_off3_eq, Nat.one_mul]; exact Nat.zero_add _
  exact (hist_apply X Y (sL L) _ j e0 e1).symm

theorem cover_rows (p0 p1 p2 p3 p4 p5 p6 p7 : S1x16.Idx → Elt F .f32) (y : S8x16.Idx) :
    ∃ p ∈ ([⟨row7, p7⟩, ⟨row6, p6⟩, ⟨row5, p5⟩, ⟨row4, p4⟩, ⟨row3, p3⟩, ⟨row2, p2⟩, ⟨row1, p1⟩, ⟨row0, p0⟩] : List (View.Piece (Elt F) S8x16 .f32)), y ∈ p.1.set :=
  View.cover_of_tiled [⟨row7, p7⟩, ⟨row6, p6⟩, ⟨row5, p5⟩, ⟨row4, p4⟩, ⟨row3, p3⟩, ⟨row2, p2⟩, ⟨row1, p1⟩, ⟨row0, p0⟩] S1x16.size (by rfl) y

set_option maxHeartbeats 4000000 in
/-- The task on SparseCore 0. -/
theorem tileBody₀ (hF : (K (F := F)).Facts) (O : CellTallies nD τ sig (HIx 1)) (W : Waits sig (HIx 1)) (hO : ∀ g, O g none = 0) (k1_h1 : k1_cond1 L = 1#1) :
    iprop(levAts (K (F := F)).L (K (F := F)).lev ∗ emp
        ∗ tileGo d X Y (sL L)
        ∗ scopedBufs (thr d L) ∗ scopedSems0 (thr d L) ∗ owes (thr d L) O W)
      ⊢ wp frame (wpE (defs₀ (F := F)) 𝒱₀ (thr d L) none) Set.univ
          (cc1_k L xV (Memref.isWhole_whole _) yV (Memref.isWhole_whole _) hV (Memref.isWhole_whole _)
            aV (Memref.isWhole_whole _) bV (Memref.isWhole_whole _) cV (Memref.isWhole_whole _) cc1_scoped0 cc1_scoped1 cc1_scoped2)
          fun _ => iprop(tileTd d X Y (sL L)
            ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  rw [(K (F := F)).scopedBufs_V hF d (cL L) (jL L), SparseCore.Cfg.scopedSems0_V (Val := Elt F) d (cL L) (jL L), ownSems0_V, ownBufs_V]
  iintro ⟨#Hlv, -, ⟨Hx, Hy, %fh, Hh⟩, ⟨⟨%fa, Ha⟩, ⟨%fb, Hb⟩, ⟨%fc, Hc⟩, Hbufs⟩, ⟨Hsem0, Hsem1, Hsem2, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xK (F := F) d L k1_h1 _).symm) $$ Hx
  ihave Hy' := (Entails.of_eq (pts_yK (F := F) d L k1_h1 _).symm) $$ Hy
  ihave Hh' := (Entails.of_eq (pts_hK (F := F) d L k1_h1 _).symm) $$ Hh
  ihave Ha' := (Entails.of_eq (pts_aV (F := F) d L _).symm) $$ Ha
  ihave Hb' := (Entails.of_eq (pts_bV (F := F) d L _).symm) $$ Hb
  ihave Hc' := (Entails.of_eq (pts_cV (F := F) d L _).symm) $$ Hc
  sl_exec
  ihave Ha2 := (Entails.of_eq (pts_landed_x (F := F) d L k1_h1 X fa (tileBody₀.sl.dma0 L X k1_h1) rfl)) $$ Ha'
  ihave Hb2 := (Entails.of_eq (pts_landed_y (F := F) d L k1_h1 Y fb (tileBody₀.sl.dma0_1 L Y k1_h1) rfl)) $$ Hb'
  sl_for (inv d L X Y O) $$ [Hmw Ha2 Hb2]
  case region =>
    intro k acc
    unfold inv
    iintro ⟨Hmw, Ha, Hb, %hacc⟩
    subst hacc
    sl_exec
    sl_step
    isplitl [Hmw]; · iexact Hmw
    isplitl [Ha]; · iexact Ha
    isplitl [Hb]; · iexact Hb
    ipureintro
    rw [accs, dif_pos k.isLt]
    rfl
  · unfold inv
    isplitl [Hmw]; · iexact Hmw
    isplitl [Ha2]; · iexact Ha2
    isplitl [Hb2]; · iexact Hb2
    ipureintro; rfl
  iintro %acc HI
  unfold inv
  icases HI with ⟨Hmw, Ha, Hb, %hacc⟩
  sl_exec
  subst hacc
  ihave Hh2 := (Entails.of_eq (pts_out (F := F) d L k1_h1 X Y fh (tileBody₀.sl.dma16 d L fc (accs (xc L X) (yc L Y) k1_t1_loop.trips))
    (View.read_writes_eq_canon _ _ _ (cover_rows _ _ _ _ _ _ _ _)))) $$ Hh'
  sl_step
  isplitl [Hx' Hy' Hh2]
  · isplitl [Hx']; · iapply (Entails.of_eq (pts_xK (F := F) d L k1_h1 _)); iexact Hx'
    isplitl [Hy']; · iapply (Entails.of_eq (pts_yK (F := F) d L k1_h1 _)); iexact Hy'
    iexact Hh2
  isplitl [Ha Hb Hc' Hbufs]
  · isplitl [Ha]; · iexists _; iexact Ha
    isplitl [Hb]; · iexists _; iexact Hb
    isplitl [Hc']; · iexists _; iexact Hc'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The task on SparseCore 1: the branch not taken. -/
theorem tileBody₁ (R : sProp 𝕄) (O : CellTallies nD τ sig (HIx 1)) (W : Waits sig (HIx 1)) (k1_h1 : ¬ k1_cond1 L = 1#1) :
    iprop(levAts (K (F := F)).L (K (F := F)).lev ∗ emp ∗ R ∗ scopedBufs (thr d L) ∗ scopedSems0 (thr d L) ∗ owes (thr d L) O W)
      ⊢ wp frame (wpE (defs₀ (F := F)) 𝒱₀ (thr d L) none) Set.univ
          (cc1_k L xV (Memref.isWhole_whole _) yV (Memref.isWhole_whole _) hV (Memref.isWhole_whole _)
            aV (Memref.isWhole_whole _) bV (Memref.isWhole_whole _) cV (Memref.isWhole_whole _) cc1_scoped0 cc1_scoped1 cc1_scoped2)
          fun _ => iprop(R ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  iintro ⟨-, -, HR, Hsb, Hss, HO⟩
  sl_exec
  sl_step
  isplitl [HR]; · iexact HR
  isplitl [Hsb]; · iexact Hsb
  isplitl [Hss]; · iexact Hss
  iexists W; isplitr
  · ipureintro; exact fun p hp => .inl hp
  · iexact HO

end Tile

end Cert.Proof.KernelIdealRun

end
-- ==== Proof.KernelIdeal.Obl.lean ====
/-
  The SparseCore call of the program: what its handshakes carry (`P`, over the confidences `X` and the accuracies `Y` the
  call finds), the tiles' obligation, and the split of the operands among the sixteen tiles of SparseCore 0. SparseCore 1
  is handed nothing.
-/
module

public import proofs.«01_k».proof.Proof.KernelIdeal.Tile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v2_scv : Memref Cert.KernelIdeal.sig Kind.scVector Space.hbm Cert.KernelIdeal.S16384 EltTy.f32)
local notation "yV" => (Memref.whole Cert.KernelIdeal.main_v3_scv : Memref Cert.KernelIdeal.sig Kind.scVector Space.hbm Cert.KernelIdeal.S16384 EltTy.f32)
local notation "hV" => (Memref.whole Cert.KernelIdeal.main_v4_scv : Memref Cert.KernelIdeal.sig Kind.scVector Space.hbm Cert.KernelIdeal.S128x16 EltTy.f32)
local notation "aV" => (Memref.whole Cert.KernelIdeal.cc1_scratch0 : Memref Cert.KernelIdeal.sig Kind.scVector Space.vmem Cert.KernelIdeal.S1024 EltTy.f32)
local notation "bV" => (Memref.whole Cert.KernelIdeal.cc1_scratch1 : Memref Cert.KernelIdeal.sig Kind.scVector Space.vmem Cert.KernelIdeal.S1024 EltTy.f32)
local notation "cV" => (Memref.whole Cert.KernelIdeal.cc1_scratch2 : Memref Cert.KernelIdeal.sig Kind.scVector Space.vmem Cert.KernelIdeal.S8x16 EltTy.f32)

/-! ## The rows of the arrays -/

theorem xSet_eq (i : Fin 16) : xSet i = (xrow i).set := by
  show ((View.whole (main_v2_scv : Ref sig .scVector)).slice (xrow i)).set = _
  rw [View.set_slice]; exact Finset.map_refl
theorem ySet_eq (i : Fin 16) : ySet i = (xrow i).set := by
  show ((View.whole (main_v3_scv : Ref sig .scVector)).slice (xrow i)).set = _
  rw [View.set_slice]; exact Finset.map_refl
theorem hSet_eq (i : Fin 16) : hSet i = (hrow i).set := by
  show ((View.whole (main_v4_scv : Ref sig .scVector)).slice (hrow i)).set = _
  rw [View.set_slice]; exact Finset.map_refl
theorem xSet_disjoint : ∀ i ∈ (Finset.univ : Finset (Fin 16)), ∀ j ∈ (Finset.univ : Finset (Fin 16)), i ≠ j → Disjoint (xSet i) (xSet j) :=
  fun i _ j _ h => by rw [xSet_eq, xSet_eq]; exact Rect.part_disjoint xdiv h
theorem ySet_disjoint : ∀ i ∈ (Finset.univ : Finset (Fin 16)), ∀ j ∈ (Finset.univ : Finset (Fin 16)), i ≠ j → Disjoint (ySet i) (ySet j) :=
  fun i _ j _ h => by rw [ySet_eq, ySet_eq]; exact Rect.part_disjoint xdiv h
theorem hSet_disjoint : ∀ i ∈ (Finset.univ : Finset (Fin 16)), ∀ j ∈ (Finset.univ : Finset (Fin 16)), i ≠ j → Disjoint (hSet i) (hSet j) :=
  fun i _ j _ h => by rw [hSet_eq, hSet_eq]; exact Rect.part_disjoint hdiv h
theorem xSet_cover : (Finset.univ : Finset (Fin 16)).biUnion xSet = Finset.univ :=
  (Finset.biUnion_congr rfl fun i _ => xSet_eq i).trans (Rect.biUnion_part xdiv)
theorem ySet_cover : (Finset.univ : Finset (Fin 16)).biUnion ySet = Finset.univ :=
  (Finset.biUnion_congr rfl fun i _ => ySet_eq i).trans (Rect.biUnion_part xdiv)
theorem hSet_cover : (Finset.univ : Finset (Fin 16)).biUnion hSet = Finset.univ :=
  (Finset.biUnion_congr rfl fun i _ => hSet_eq i).trans (Rect.biUnion_part hdiv)

theorem xPts_rows (d : Dev nD) (f : Buf (Elt F) (xLoc d)) :
    (xLoc d ↦{fullShare} f : sProp 𝕄) = bigSep Finset.univ fun i : Fin 16 => xLoc d ↦[xSet i]{fullShare} f := by
  rw [← pointsTo_biUnion Finset.univ (ℓ := xLoc d) xSet xSet_disjoint, xSet_cover]; try rfl
theorem yPts_rows (d : Dev nD) (f : Buf (Elt F) (yLoc d)) :
    (yLoc d ↦{fullShare} f : sProp 𝕄) = bigSep Finset.univ fun i : Fin 16 => yLoc d ↦[ySet i]{fullShare} f := by
  rw [← pointsTo_biUnion Finset.univ (ℓ := yLoc d) ySet ySet_disjoint, ySet_cover]; try rfl
theorem hPts_rows (d : Dev nD) (f : Buf (Elt F) (hLoc d)) :
    (hLoc d ↦{fullShare} f : sProp 𝕄) = bigSep Finset.univ fun i : Fin 16 => hLoc d ↦[hSet i]{fullShare} f := by
  rw [← pointsTo_biUnion Finset.univ (ℓ := hLoc d) hSet hSet_disjoint, hSet_cover]; try rfl

/-! ## What the handshakes carry -/

section Carry

variable [FloatOps F] [Named F] (X Y : S16384.Idx → F .f32)

/-- The call's operands, before it and after it. -/
abbrev callSt (d : Dev nD) : sProp 𝕄 := iprop((xLoc d ↦{fullShare} X) ∗ (yLoc d ↦{fullShare} Y) ∗ ∃ f, hLoc d ↦{fullShare} f)
abbrev callDn (d : Dev nD) : sProp 𝕄 := iprop((xLoc d ↦{fullShare} X) ∗ (yLoc d ↦{fullShare} Y) ∗ hLoc d ↦{fullShare} hist X Y)

/-- A resource of SparseCore 0's alone. -/
def atCore (c : ℕ) (R : sProp 𝕄) : sProp 𝕄 := if c = 0 then R else iprop(emp)
theorem atCore_zero (R : sProp 𝕄) : atCore 0 R = R := if_pos rfl
theorem atCore_ne {c : ℕ} (h : c ≠ 0) (R : sProp 𝕄) : atCore c R = iprop(emp) := if_neg h
instance atCore_storable (c : ℕ) (R : sProp 𝕄) [BI.Storable (upEmb : UEmb _ 𝕄) R] : BI.Storable (upEmb : UEmb _ 𝕄) (atCore c R) := by
  unfold atCore; split <;> infer_instance

/-- SparseCore 0 takes the three arrays, each of its tiles its rows of them. -/
def P : (K (F := F)).Pay (nD := nD) (Val := Elt F) (Name := ℕ) (U := UU) where
  st := fun q d c => match q with | 0 => atCore c.val (callSt X Y d)
  dn := fun q d c => match q with | 0 => atCore c.val (callDn X Y d)
  go := fun q d c i => match q with | 0 => atCore c.val (tileGo d X Y (Fin.cast nSub_zero i))
  td := fun q d c i => match q with | 0 => atCore c.val (tileTd d X Y (Fin.cast nSub_zero i))
  x := fun _ _ => iprop(emp)

instance P_storable : (P (F := F) X Y).IsStorable where
  st q d c := match q with
    | 0 => (inferInstance : BI.Storable (upEmb : UEmb _ 𝕄) (atCore c.val (callSt X Y d)))
  dn q d c := match q with
    | 0 => (inferInstance : BI.Storable (upEmb : UEmb _ 𝕄) (atCore c.val (callDn X Y d)))
  go q d c i := match q with
    | 0 => (inferInstance : BI.Storable (upEmb : UEmb _ 𝕄) (atCore c.val (tileGo d X Y (Fin.cast nSub_zero i))))
  td q d c i := match q with
    | 0 => (inferInstance : BI.Storable (upEmb : UEmb _ 𝕄) (atCore c.val (tileTd d X Y (Fin.cast nSub_zero i))))

/-! ## The tiles' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          xV (Memref.isWhole_whole _) yV (Memref.isWhole_whole _) hV (Memref.isWhole_whole _)
          aV (Memref.isWhole_whole _) bV (Memref.isWhole_whole _) cV (Memref.isWhole_whole _) cc1_scoped0 cc1_scoped1 cc1_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, on either SparseCore. -/
theorem tileBody (d : Dev nD) (L : grid1.Coords) (hF : (K (F := F)).Facts) (O : CellTallies nD τ sig (HIx 1)) (W : Waits sig (HIx 1)) (hO : ∀ g, O g none = 0) :
    iprop(levAts (K (F := F)).L (K (F := F)).lev ∗ emp
        ∗ atCore (L 0).val (tileGo d X Y (sL L))
        ∗ scopedBufs (thr d L) ∗ scopedSems0 (thr d L) ∗ owes (thr d L) O W)
      ⊢ wp frame (wpE (defs₀ (F := F)) 𝒱₀ (thr d L) none) Set.univ
          (cc1_k L xV (Memref.isWhole_whole _) yV (Memref.isWhole_whole _) hV (Memref.isWhole_whole _)
            aV (Memref.isWhole_whole _) bV (Memref.isWhole_whole _) cV (Memref.isWhole_whole _) cc1_scoped0 cc1_scoped1 cc1_scoped2)
          fun _ => iprop(atCore (L 0).val (tileTd d X Y (sL L))
            ∗ scopedBufs (thr d L) ∗ scopedSems0 (thr d L)
            ∗ ∃ W', ⌜∀ p ∈ W', p ∈ W ∨ p.2 = none⌝ ∗ owes (thr d L) O W') := by
  by_cases h : (L 0).val = 0
  · rw [h, atCore_zero, atCore_zero]
    exact tileBody₀ d L X Y hF O W hO ((cond_iff L).mpr h)
  · rw [atCore_ne h, atCore_ne h]
    exact tileBody₁ d L _ O W fun e => h ((cond_iff L).mp e)

set_option maxRecDepth 16384 in
theorem tileObl (hF : (K (F := F)).Facts) : (K (F := F)).TileObl (D (F := F)) 𝒱 (P X Y) v₀ 0 := by
  intro d c i O W hO _ _
  simp only [show (P X Y).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tileBody X Y d (coordsV ⟨_, hci.1⟩ ⟨_, hci.2⟩) hF O W hO).trans (wp_mono frame _ _ fun _ => obl_post)

/-! ## The split of the operands among the tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_emp' {I : Type} (s : Finset I) : (bigSep s fun _ => iprop(emp)) = (iprop(emp) : sProp 𝕄) := bigSep_emp_const s

theorem split₀ (d : Dev nD) :
    callSt X Y d ⊢ (|={Set.univ}=> iprop((bigSep Finset.univ fun i : Fin 16 => tileGo d X Y i)
      ∗ ((bigSep Finset.univ fun i : Fin 16 => tileTd d X Y i) -∗ callDn X Y d)) : sProp 𝕄) := by
  unfold callSt callDn tileGo tileTd
  rw [bigSep_sep', bigSep_sep', bigSep_sep', bigSep_sep', xPts_rows d X, yPts_rows d Y, hPts_rows d (hist X Y)]
  iintro ⟨Hx, Hy, %f, Hh⟩; imodintro
  isplitl [Hx Hy Hh]
  · isplitl [Hx]; · iexact Hx
    isplitl [Hy]; · iexact Hy
    ihave Hh' := (Entails.of_eq (hPts_rows (F := F) d f)) $$ Hh
    have hmono : (bigSep Finset.univ fun i : Fin 16 => (hLoc d ↦[hSet i]{fullShare} f : sProp 𝕄)) ⊢ bigSep Finset.univ fun i : Fin 16 => iprop(∃ f, hLoc d ↦[hSet i]{fullShare} f) :=
      bigSep_mono fun i _ => exists_intro (Φ := fun f => (hLoc d ↦[hSet i]{fullShare} f : sProp 𝕄)) f
    iapply hmono
    iexact Hh'
  iintro H; iexact H

theorem vecSplit : (K (F := F)).VecSplit' (P X Y) 0 := by
  intro d c
  show atCore c.val (callSt X Y d) ⊢ |={Set.univ}=> iprop(
      (bigSep Finset.univ fun i : Fin ((K (F := F)).nSub 0) => atCore c.val (tileGo d X Y (Fin.cast nSub_zero i)))
      ∗ ((bigSep Finset.univ fun i : Fin ((K (F := F)).nSub 0) => atCore c.val (tileTd d X Y (Fin.cast nSub_zero i)))
          -∗ atCore c.val (callDn X Y d)))
  rw [bigSep_tasks (F := F) (fun i => atCore c.val (tileGo d X Y i)), bigSep_tasks (F := F) (fun i => atCore c.val (tileTd d X Y i))]
  by_cases h : c.val = 0
  · simp only [h, atCore_zero]
    exact split₀ X Y d
  · simp only [atCore_ne h, bigSep_emp']
    iintro -; imodintro
    isplitr; · iempintro
    iintro H; iexact H

end Carry

end Cert.Proof.KernelIdealRun

end
-- ==== Proof.KernelIdeal.Region.lean ====
/-
  The two TensorCore calls of the program as regions of its run, each over the contents `A` its arrays have when it is
  entered: the blocks its windows read, what its body leaves in them, the proof data and the record of the region. In
  both the TensorCore owes the handshakes' remaining signals throughout, at levels above those its own waits sit at.
-/
module

public import proofs.«01_k».proof.Proof.KernelIdeal.Common
public import proofs.«01_k».proof.Proof.Gen.KernelIdeal.Points
public import Idealize.ShloMosaic.Lib.Pipeline.RegionsLoop
public import Idealize.ShloMosaic.Lib.Pipeline.FrameSuffix
public import Idealize.ShloMosaic.Lib.Ring
public import Idealize.ShloMosaic.Lib.WordCmp

@[expose] public section

-- whether an index lies in a rectangle is decided along the long axes
set_option maxRecDepth 16384

noncomputable section

namespace Cert.Proof.KernelIdealRun

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## What the TensorCore owes -/

/-- The pairs the TensorCore may have waited at before the handshake of call `n`. -/
def recd (n : ℕ) (c : Dev nD) : Set (SemLoc sig × HIx 1) :=
  {p | (K (F := F)).lev ((c : Thread nD τ), p.1) p.2 ≤ 8 * SparseCore.Cfg.Blocks.fst 1 (N := 1) n}

/-- The TensorCore owing the signals of the calls from `n` on, its waits below their levels. -/
def owing (n : ℕ) (c : Dev nD) : sProp 𝕄 :=
  iprop(∃ W, ⌜(K (F := F)).WBelow (c : Thread nD τ) W (8 * SparseCore.Cfg.Blocks.fst 1 (N := 1) n)⌝ ∗ owes (c : Thread nD τ) ((K (F := F)).Otc c n) W)

/-! ## The first call: a row's largest confidence, and whether its first maximum is the label's -/

section First

variable (A : (c : Dev nD) → (w : Fin cfg0.W) → Buf (Elt F) ((cfg0.win w).arr.view.loc (c : Thread nD τ)))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (A c w)

theorem before0_0_of {c : Dev nD} (dat : Dat τ (Elt F) (HIx 1) ℕ UU ℕ cfg0 c) (hA : dat.A 0 = A c 0)
    (hafter : ∀ t, dat.after 0 t = iblk0 A c 0 t) (t : Fin cfg0.N) (d) : dat.before 0 t d = iblk0 A c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = A c 1)
    (hafter : ∀ t, dat.after 1 t = iblk0 A c 1 t) (t : Fin cfg0.N) (d) : dat.before 1 t d = iblk0 A c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rIn : Rect S512x1000 := Rect.unit (s := S512x1000) ![0, 0] S512x1000.size inb_S512x1000_S512x1000_0_0
abbrev rRow : Rect S1x1x512 := Rect.unit (s := S1x1x512) ![0, 0, 0] S1x1x512.size inb_S1x1x512_S1x1x512_0_0_0

/-- What the body leaves in the confidences' buffer and in the accuracies' one. -/
def out0_2 (x0 : Vec F S512x1000 .f32) : Vec F S1x1x512 .f32 :=
  View.canon (Val := Elt F) (e := EltTy.f32) [⟨rRow, k0_pay2 (View.ld (Val := Elt F) (e' := .f32) x0 rIn)⟩]
def out0_3 (x0 : Vec F S512x1000 .f32) (x1 : Vec F S1x1x512 .i32) : Vec F S1x1x512 .f32 :=
  View.canon (Val := Elt F) (e := EltTy.f32) [⟨rRow, k0_pay3 (View.ld (Val := Elt F) (e' := .f32) x0 rIn) (View.ld (Val := Elt F) (e' := .i32) x1 rRow)⟩]

/-- One store fills the buffer. -/
theorem cover0 (p0 : Vec F S1x1x512 .f32) (y : S1x1x512.Idx) :
    ∃ pc ∈ ([⟨rRow, p0⟩] : List (View.Piece (Elt F) S1x1x512 .f32)), y ∈ pc.1.set :=
  View.cover_of_tiled [⟨rRow, p0⟩] S1x1x512.size (by rfl) y

set_option maxHeartbeats 1000000 in
theorem sound_kernel0 (c : Dev nD) (E : Set ℕ) (i : grid0.Coords) (arg1 : Memref sig .tc .vmem S512x1000 .f32) (harg1 : arg1.IsWhole) (arg2 : Memref sig .tc .vmem S1x1x512 .i32) (harg2 : arg2.IsWhole) (arg3 : Memref sig .tc .vmem S1x1x512 .f32) (harg3 : arg3.IsWhole) (arg4 : Memref sig .tc .vmem S1x1x512 .f32) (harg4 : arg4.IsWhole)
    (x0 : Vec F S512x1000 .f32) (x1 : Vec F S1x1x512 .i32) (Q : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x0 x1)) -∗ Q ⟨⟩))
      ⊢ wp frame (wpE (defs₀ (F := F)) 𝒱₀ c none) E (cc0__tc_body i arg1 harg1 arg2 harg2 arg3 harg3 arg4 harg4) Q := by
  simp only [cc0__tc_body_eq_skeleton]; unfold cc0__tc_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data: each input's buffer at its block, each output's at what the body leaves; the invariant is the buffers
    no window stages. -/
def dat0 (c : Dev nD) : Dat τ (Elt F) (HIx 1) ℕ UU ℕ cfg0 c where
  A := A c
  after w t := match w with
    | ⟨0, _⟩ => iblk0 A c 0 t
    | ⟨1, _⟩ => iblk0 A c 1 t
    | ⟨2, _⟩ => out0_2 (iblk0 A c 0 t)
    | ⟨3, _⟩ => out0_3 (iblk0 A c 0 t) (iblk0 A c 1 t)
  Φ _ := Pipeline.scopedRest spec0 c
  q _ := fullShare
  owed _ := (K (F := F)).Otc c 0
  recorded _ := recd (F := F) 0 c

theorem A_eq0 (c : Dev nD) (w : Fin cfg0.W) : (dat0 A c).A w = A c w := by dsimp only [dat0]
theorem after0_0 (c : Dev nD) (t : Fin cfg0.N) : (dat0 A c).after 0 t = iblk0 A c 0 t := by dsimp only [dat0]
theorem after0_1 (c : Dev nD) (t : Fin cfg0.N) : (dat0 A c).after 1 t = iblk0 A c 1 t := by dsimp only [dat0]
theorem after0_2 (c : Dev nD) (t : Fin cfg0.N) : (dat0 A c).after 2 t = out0_2 (iblk0 A c 0 t) := by dsimp only [dat0]
theorem after0_3 (c : Dev nD) (t : Fin cfg0.N) : (dat0 A c).after 3 t = out0_3 (iblk0 A c 0 t) (iblk0 A c 1 t) := by dsimp only [dat0]
theorem before0_0 (c : Dev nD) (t : Fin cfg0.N) (d) : (dat0 A c).before 0 t d = iblk0 A c 0 t :=
  before0_0_of A (dat0 A c) (A_eq0 A c 0) (after0_0 A c) t d
theorem before0_1 (c : Dev nD) (t : Fin cfg0.N) (d) : (dat0 A c).before 1 t d = iblk0 A c 1 t :=
  before0_1_of A (dat0 A c) (A_eq0 A c 1) (after0_1 A c) t d

def bodyPre0 (c : Dev nD) (t : Fin cfg0.N) : sProp 𝕄 :=
  iprop((dat0 A c).Φ t.castSucc ∗ (dat0 A c).owesAt none t.castSucc
    ∗ (∃ d, owns (c : Thread nD τ) (st0_0 t) fullShare ((dat0 A c).before 0 t d))
    ∗ (∃ d, owns (c : Thread nD τ) (st0_1 t) fullShare ((dat0 A c).before 1 t d))
    ∗ (∃ d, owns (c : Thread nD τ) (st0_2 t) fullShare ((dat0 A c).before 2 t d))
    ∗ (∃ d, owns (c : Thread nD τ) (st0_3 t) fullShare ((dat0 A c).before 3 t d)))

def bodyPost0 (c : Dev nD) (t : Fin cfg0.N) : sProp 𝕄 :=
  iprop((dat0 A c).Φ t.succ ∗ (dat0 A c).owesAt none t.succ
    ∗ owns (c : Thread nD τ) (st0_0 t) fullShare ((dat0 A c).after 0 t)
    ∗ owns (c : Thread nD τ) (st0_1 t) fullShare ((dat0 A c).after 1 t)
    ∗ owns (c : Thread nD τ) (st0_2 t) fullShare ((dat0 A c).after 2 t)
    ∗ owns (c : Thread nD τ) (st0_3 t) fullShare ((dat0 A c).after 3 t))

theorem sound_body0 (c : Dev nD) (t : Fin cfg0.N) :
    bodyPre0 A c t ⊢ wp frame (wpE (defs₀ (F := F)) 𝒱₀ c none) Set.univ (bodyAt0 t) (fun _ => bodyPost0 A c t) := by
  unfold bodyPre0 bodyPost0 bodyAt0
  simp only [before0_0, before0_1]
  rw [show (dat0 A c).Φ t.succ = (dat0 A c).Φ t.castSucc from rfl,
    show (dat0 A c).owesAt none t.succ = (dat0 A c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 A c 0 t) (iblk0 A c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by rfl

theorem body_obligation0 (c : Dev nD) : BodyObligation (dat0 (F := F) A c) (defs₀ (F := F)) 𝒱₀ none Set.univ := fun t => by
  rw [bigSep_W0, bigSep_W0, defs₀_row0]
  exact triple_restated (sound_body0 A c t) rfl .rfl fun _ => .rfl

end First

/-! ## The last call: the histogram combined into one number -/

section Last

variable (A : (c : Dev nD) → (w : Fin cfg2.W) → Buf (Elt F) ((cfg2.win w).arr.view.loc (c : Thread nD τ)))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (A c w)

theorem before2_0_of {c : Dev nD} (dat : Dat τ (Elt F) (HIx 1) ℕ UU ℕ cfg2 c) (hA : dat.A 0 = A c 0)
    (hafter : ∀ t, dat.after 0 t = iblk2 A c 0 t) (t : Fin cfg2.N) (d) : dat.before 0 t d = iblk2 A c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev rHist : Rect S128x16 := Rect.unit (s := S128x16) ![0, 0] S128x16.size inb_S128x16_S128x16_0_0
abbrev rOne : Rect S1 := Rect.unit (s := S1) ![0] S1.size inb_S1_S1_0

/-- The number the body computes from a histogram. -/
def combine (x : Vec F S128x16 .f32) : F .f32 :=
  let v := View.ld (Val := Elt F) (e' := .f32) x rHist
  k2_pay1 (k2_pay4 v) (k2_pay5 v) (k2_pay6 v)

def out2_1 (x : Vec F S128x16 .f32) : Vec F S1 .f32 :=
  View.canon (Val := Elt F) (e := EltTy.f32) [⟨rOne, fun _ => combine x⟩]

theorem cover2 (p0 : Vec F S1 .f32) (y : S1.Idx) :
    ∃ pc ∈ ([⟨rOne, p0⟩] : List (View.Piece (Elt F) S1 .f32)), y ∈ pc.1.set :=
  View.cover_of_tiled [⟨rOne, p0⟩] S1.size (by rfl) y

set_option maxHeartbeats 1000000 in
theorem sound_kernel2 (c : Dev nD) (E : Set ℕ) (arg0 : Memref sig .tc .vmem S128x16 .f32) (harg0 : arg0.IsWhole) (arg1 : Memref sig .tc .smem S1 .f32) (harg1 : arg1.IsWhole)
    (x0 : Vec F S128x16 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ Q ⟨⟩))
      ⊢ wp frame (wpE (defs₀ (F := F)) 𝒱₀ c none) E (cc2__combine_body arg0 harg0 arg1 harg1) Q := by
  simp only [cc2__combine_body_eq_skeleton]; unfold cc2__combine_body_skel
  simp only [k2_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2 _)

/-- The proof data. -/
def dat2 (c : Dev nD) : Dat τ (Elt F) (HIx 1) ℕ UU ℕ cfg2 c where
  A := A c
  after w t := match w with
    | ⟨0, _⟩ => iblk2 A c 0 t
    | ⟨1, _⟩ => out2_1 (iblk2 A c 0 t)
  Φ _ := Pipeline.scopedRest spec2 c
  q _ := fullShare
  owed _ := (K (F := F)).Otc c 1
  recorded _ := recd (F := F) 1 c

theorem A_eq2 (c : Dev nD) (w : Fin cfg2.W) : (dat2 A c).A w = A c w := by dsimp only [dat2]
theorem after2_0 (c : Dev nD) (t : Fin cfg2.N) : (dat2 A c).after 0 t = iblk2 A c 0 t := by dsimp only [dat2]
theorem after2_1 (c : Dev nD) (t : Fin cfg2.N) : (dat2 A c).after 1 t = out2_1 (iblk2 A c 0 t) := by dsimp only [dat2]
theorem before2_0 (c : Dev nD) (t : Fin cfg2.N) (d) : (dat2 A c).before 0 t d = iblk2 A c 0 t :=
  before2_0_of A (dat2 A c) (A_eq2 A c 0) (after2_0 A c) t d

def bodyPre2 (c : Dev nD) (t : Fin cfg2.N) : sProp 𝕄 :=
  iprop((dat2 A c).Φ t.castSucc ∗ (dat2 A c).owesAt none t.castSucc
    ∗ (∃ d, owns (c : Thread nD τ) (st2_0 t) fullShare ((dat2 A c).before 0 t d))
    ∗ (∃ d, owns (c : Thread nD τ) (st2_1 t) fullShare ((dat2 A c).before 1 t d)))

def bodyPost2 (c : Dev nD) (t : Fin cfg2.N) : sProp 𝕄 :=
  iprop((dat2 A c).Φ t.succ ∗ (dat2 A c).owesAt none t.succ
    ∗ owns (c : Thread nD τ) (st2_0 t) fullShare ((dat2 A c).after 0 t)
    ∗ owns (c : Thread nD τ) (st2_1 t) fullShare ((dat2 A c).after 1 t))

theorem sound_body2 (c : Dev nD) (t : Fin cfg2.N) :
    bodyPre2 A c t ⊢ wp frame (wpE (defs₀ (F := F)) 𝒱₀ c none) Set.univ (bodyAt2 t) (fun _ => bodyPost2 A c t) := by
  unfold bodyPre2 bodyPost2 bodyAt2
  simp only [before2_0]
  rw [show (dat2 A c).Φ t.succ = (dat2 A c).Φ t.castSucc from rfl,
    show (dat2 A c).owesAt none t.succ = (dat2 A c).owesAt none t.castSucc from rfl,
    after2_0, after2_1]
  iintro ⟨HΦ, Ho, ⟨%d0, H0⟩, ⟨%d1, H1⟩⟩
  iapply (sound_kernel2 c Set.univ _ _ _ _ (iblk2 A c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row2 (t : Fin cfg2.N) :
    defs₀ (F := F) .tc cfg2.body (cfg2.bodyArgs t (cfg2.slots t)) = bodyAt2 t := by rfl

theorem body_obligation2 (c : Dev nD) : BodyObligation (dat2 (F := F) A c) (defs₀ (F := F)) 𝒱₀ none Set.univ := fun t => by
  rw [bigSep_W2, bigSep_W2, defs₀_row2]
  exact triple_restated (sound_body2 A c t) rfl .rfl fun _ => .rfl

end Last

/-! ## The regions -/

/-- No pipeline has a prefetched table. -/
abbrev adm : (p : Fin 2) → (pcfgs (F := F) p).Adm := fun p => (cfgs p).toPCfg_adm

variable (A0 : (c : Dev nD) → (w : Fin cfg0.W) → Buf (Elt F) ((cfg0.win w).arr.view.loc (c : Thread nD τ)))
  (A2 : (c : Dev nD) → (w : Fin cfg2.W) → Buf (Elt F) ((cfg2.win w).arr.view.loc (c : Thread nD τ)))

/-- Both pipelines' proof data. -/
def pdats : (p : Fin 2) → (c : Dev nD) → Dat τ (Elt F) (HIx 1) ℕ UU ℕ (Pipeline.pin (pcfgs (F := F)) adm p) c
  | ⟨0, _⟩ => fun c => dat0 A0 c
  | ⟨1, _⟩ => fun c => dat2 A2 c

/-- The evidence for a pipeline's waits: they sit at level 0, and every signal owed sits above. -/
theorem waits (p : Fin 2) (c : Dev nD) (n : ℕ) (h : ∀ t, (pdats A0 A2 p c).owed t = (K (F := F)).Otc c n) :
    (levAts (K (F := F)).L (K (F := F)).lev : sProp 𝕄)
      ⊢ Pipeline.cellsWaits (Pipeline.pin (pcfgs (F := F)) adm) (pdats A0 A2) none p c :=
  Pipeline.cellsWaits_of_cut _ _ none p c 0 _ h (fun _ _ => Finset.mem_univ _)
    (fun _ _ => le_of_eq (SparseCore.Cfg.lev_none _ _))
    (fun g i hg => ⟨Finset.mem_univ _, lt_of_lt_of_le (Nat.succ_pos _) ((K (F := F)).lev_of_Otc_pos hg)⟩)

/-- The core's `owes` at a region's entry and at its exit. -/
theorem owing_entry (n : ℕ) (c : Dev nD) {cfg : Cfg sig Λ₀} (dat : Dat τ (Elt F) (HIx 1) ℕ UU ℕ cfg c) (t : Fin (cfg.N + 1))
    (ho : dat.owed t = (K (F := F)).Otc c n) (hr : dat.recorded t = recd (F := F) n c) :
    (owing (F := F) n c) ⊢ dat.owesAt none t := by
  unfold owing Dat.owesAt Pipeline.owesWithin Dat.bound
  rw [ho, hr]
  iintro ⟨%W, %hW, HO⟩
  iexists W
  isplitr
  · ipureintro; exact fun p hp => Or.inl (hW p hp)
  iexact HO

theorem owing_exit (n : ℕ) (c : Dev nD) {cfg : Cfg sig Λ₀} (dat : Dat τ (Elt F) (HIx 1) ℕ UU ℕ cfg c) (t : Fin (cfg.N + 1))
    (ho : dat.owed t = (K (F := F)).Otc c n) (hr : dat.recorded t = recd (F := F) n c) :
    dat.owesAt none t ⊢ (owing (F := F) n c) := by
  unfold owing Dat.owesAt Pipeline.owesWithin Dat.bound
  rw [ho, hr]
  iintro ⟨%W, %hW, HO⟩
  iexists W
  isplitr
  · ipureintro; intro p hp
    rcases hW hp with h | h
    · exact h
    · obtain ⟨w, s, rfl⟩ := h
      exact (le_of_eq (SparseCore.Cfg.lev_none _ _)).trans (Nat.zero_le _)
  iexact HO

set_option backward.isDefEq.respectTransparency.types false in
/-- The first call as a region: its arrays at `A0`, left at what the pipeline writes back. -/
def reg0 : Pipeline.RegionSeg (pcfgs (F := F)) adm (pdats A0 A2) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 A0 c).loose
  hwaits c := waits A0 A2 0 c 0 fun _ => rfl
  pre c := iprop((dat0 A0 c).arrays ((dat0 A0 c).arrAt · 0) ∗ owing (F := F) 0 c)
  post c := iprop((dat0 A0 c).arrays ((dat0 A0 c).arrAt · cfg0.N) ∗ owing (F := F) 0 c)
  X c := iprop(emp)
  Y c := iprop(emp)
  Z c := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owing_entry (F := F) 0 c (dat0 A0 c) 0 rfl rfl) $$ [HO]; iexact HO
    isplitr <;> iempintro
  hin c := by
    show _ ⊢ Pipeline.scopedRest spec0 c
    iintro ⟨-, -, Hr⟩
    iexact Hr
  hout c := by
    rw [Pipeline.ownSems0_none]
    show Pipeline.scopedRest spec0 c ⊢ _
    iintro Hr
    isplitr; · iempintro
    isplitr; · iempintro
    iexact Hr
  hexit c := by
    iintro ⟨Ha, HO, -, -⟩
    imodintro
    isplitl [Ha]; · iexact Ha
    iapply (owing_exit (F := F) 0 c (dat0 A0 c) _ rfl rfl) $$ [HO]; iexact HO

set_option backward.isDefEq.respectTransparency.types false in
/-- The last call as a region. -/
def reg2 : Pipeline.RegionSeg (pcfgs (F := F)) adm (pdats A0 A2) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 A2 c).loose
  hwaits c := waits A0 A2 1 c 1 fun _ => rfl
  pre c := iprop((dat2 A2 c).arrays ((dat2 A2 c).arrAt · 0) ∗ owing (F := F) 1 c)
  post c := iprop((dat2 A2 c).arrays ((dat2 A2 c).arrAt · cfg2.N) ∗ owing (F := F) 1 c)
  X c := iprop(emp)
  Y c := iprop(emp)
  Z c := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owing_entry (F := F) 1 c (dat2 A2 c) 0 rfl rfl) $$ [HO]; iexact HO
    isplitr <;> iempintro
  hin c := by
    show _ ⊢ Pipeline.scopedRest spec2 c
    iintro ⟨-, -, Hr⟩
    iexact Hr
  hout c := by
    rw [Pipeline.ownSems0_none]
    show Pipeline.scopedRest spec2 c ⊢ _
    iintro Hr
    isplitr; · iempintro
    isplitr; · iempintro
    iexact Hr
  hexit c := by
    iintro ⟨Ha, HO, -, -⟩
    imodintro
    isplitl [Ha]; · iexact Ha
    iapply (owing_exit (F := F) 1 c (dat2 A2 c) _ rfl rfl) $$ [HO]; iexact HO

end Cert.Proof.KernelIdealRun

end
-- ==== Proof.KernelIdeal.Launch.lean ====
/-
  The program's run: @main on the TensorCore — the labels reshaped, the first call, its two results reshaped, the
  SparseCore call, the last call — and the launch theorem's conclusion: the arguments end as they were and the result is
  the last call's number of the histogram of the first call's results.
-/
module

public import proofs.«01_k».proof.Proof.KernelIdeal.Obl
public import proofs.«01_k».proof.Proof.KernelIdeal.Region

@[expose] public section

noncomputable section

namespace Cert.Proof.KernelIdealRun

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (cellsGhost toksInit)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The buffers' contents along the run -/

/-- A TensorCore buffer's contents at the launch. -/
abbrev at₀ (c : Dev nD) (b : Ref sig .tc) : Buf (Elt F) ((c : Thread nD τ).loc b) := m ((c : Thread nD τ).loc b)

/-- The labels as the first call takes them. -/
def lab (c : Dev nD) : S32x1x512.Idx → Elt F .i32 := shapeCast S32x1x512 (at₀ m c main_arg1) shapeCasts_S16384_S32x1x512

/-- The first call's arrays at its entry. -/
def A0 (c : Dev nD) : (w : Fin cfg0.W) → Buf (Elt F) ((cfg0.win w).arr.view.loc (c : Thread nD τ))
  | ⟨0, _⟩ => at₀ m c main_arg0
  | ⟨1, _⟩ => lab m c
  | ⟨2, _⟩ => at₀ m c main_v1_0
  | ⟨3, _⟩ => at₀ m c main_v1_1

/-- The confidences and the accuracies the first call leaves. -/
def confA (c : Dev nD) : S32x1x512.Idx → F .f32 := (dat0 (A0 m) c).arrAt 2 cfg0.N
def accA (c : Dev nD) : S32x1x512.Idx → F .f32 := (dat0 (A0 m) c).arrAt 3 cfg0.N
/-- The same as the SparseCore call takes them. -/
def confX (c : Dev nD) : S16384.Idx → F .f32 := shapeCast S16384 (confA m c) shapeCasts_S32x1x512_S16384
def accX (c : Dev nD) : S16384.Idx → F .f32 := shapeCast S16384 (accA m c) shapeCasts_S32x1x512_S16384

/-- The last call's arrays at its entry. -/
def A2 (c : Dev nD) : (w : Fin cfg2.W) → Buf (Elt F) ((cfg2.win w).arr.view.loc (c : Thread nD τ))
  | ⟨0, _⟩ => hist (confX m c) (accX m c)
  | ⟨1, _⟩ => at₀ m c main_v5

/-- The program's result. -/
def res (c : Dev nD) : S1.Idx → F .f32 := (dat2 (A2 m) c).arrAt 1 cfg2.N

/-- What the handshakes carry: the confidences and the accuracies of the one device. -/
abbrev PP := P (F := F) (confX m 0) (accX m 0)

/-! ## The launch element of the ghost state -/

def u₀ : UU := (initOf (K (F := F)).hsCells (K (F := F)).hsToks, (initOf (Pipeline.cells cfgs cellOf_inj) (Pipeline.launchToks cfgs cellOf_inj), 1))

/-- What @main is handed beside the launch's: the staging cells' ghost state and the transfers' tokens of both pipelines. -/
def G (d : Dev nD) : sProp 𝕄 :=
  iprop((bigSep Finset.univ fun p : Fin 2 => cellsGhost cfgs (EP (F := F)) p d) ∗ bigSep Finset.univ fun p : Fin 2 => toksInit cfgs (EP (F := F)) p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H2 := (own_pair_emb (ER (F := F)) (initOf (Pipeline.cells cfgs cellOf_inj) (Pipeline.launchToks cfgs cellOf_inj)) (1 : Counters)) $$ HR
  icases H2 with ⟨HP, -⟩
  imod (Pipeline.fund_ghost cfgs (EP (F := F)) cellOf_inj) $$ [HP] with ⟨Hg, Ht⟩
  · iexact HP
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## @main's operations -/

/-- A reshape of one buffer into another, both held whole. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : x ≠ y) (fx : Buf (Elt F) ((SparseCore.T d).loc x)) (fy fz : Buf (Elt F) ((SparseCore.T d).loc y))
    (hz : fz = fun i => he ▸ shapeCast y.ty.shape fx hn i) (Q : PUnit → sProp 𝕄) :
    iprop(boundary (SparseCore.T d) ∗ ((SparseCore.T d).loc x ↦{fullShare} fx) ∗ ((SparseCore.T d).loc y ↦{fullShare} fy)
        ∗ (iprop(boundary (SparseCore.T d) ∗ ((SparseCore.T d).loc x ↦{fullShare} fx)
            ∗ ((SparseCore.T d).loc y ↦{fullShare} fz)) -∗ Q ⟨⟩))
      ⊢ wp frame (wpE ((K (F := F)).defs (D (F := F))) 𝒱 (SparseCore.T d) none) Set.univ (hlo rfl (StableHlo.reshape x y he hn hx hy) (fun _ => .ret ⟨⟩)) Q := by
  subst hz
  have hd : (Proc.devRef .tc x : DevRef τ sig) ≠ Proc.devRef .tc y := fun e => hne (Proc.devRef_injective _ e)
  obtain ⟨V₁, hx', hy'⟩ : ∃ V₁ : Valuation τ sig (Elt F), V₁ (Proc.devRef .tc x) = fx ∧ V₁ (Proc.devRef .tc y) = fy :=
    ⟨Function.update (Function.update (fun _ => Classical.arbitrary _) (Proc.devRef .tc x) fx) (Proc.devRef .tc y) fy,
      by rw [Function.update_of_ne hd, Function.update_self], by rw [Function.update_self]⟩
  have hheld : ∀ W : Valuation τ sig (Elt F), (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := fun W => by
    unfold held
    rw [SparseCore.bigSep_insert' (by rw [Finset.mem_singleton]; exact hd), bigSep_singleton]
  iintro ⟨Hb, Hx, Hy, Hk⟩
  iapply (wp_hlo_within 𝒱 (SparseCore.T d) none Set.univ (op := StableHlo.reshape x y he hn hx hy) (S := {Proc.devRef .tc x, Proc.devRef .tc y}) (subset_of_eq rfl) (V := V₁)) $$ [Hb Hx Hy]
  · isplitl [Hb]; · iexact Hb
    rw [hheld, hx', hy']
    isplitl [Hx]; · iexact Hx
    iexact Hy
  iintro ⟨Hb, Hh⟩
  ihave Hh' := (Entails.of_eq ((hheld _).trans (by rw [StableHlo.reshape_result, StableHlo.reshape_result_ne (h := hne), hx']))) $$ Hh
  icases Hh' with ⟨Hx, Hy⟩
  rw [wp_ret]; imodintro
  iapply Hk
  isplitl [Hb]; · iexact Hb
  isplitl [Hx]; · iexact Hx
  iexact Hy

section Calls

/-- A call of a pipeline as @main spells it is the pipelines' own program, lifted. -/
theorem lift_call (p : Fin 2) :
    (Prog.lift (.customCall (SparseCore.inner (Pipeline.entry p)) ()) : Prog (TpuEff nD τ sig (Elt F) (SparseCore.Sig (ΛP (F := F)) 1) .tc) PUnit)
      = SparseCore.liftProg (Prog.op (.customCall (Pipeline.entry p) ()) fun _ => .ret ⟨⟩ : Prog (TpuEff nD τ sig (Elt F) (ΛP (F := F)) .tc) PUnit) := rfl

theorem pin_inj : Function.Injective (Pipeline.cellOf (nD := nD) (τ := τ) (Pipeline.pin (pcfgs (F := F)) adm)) := cellOf_inj

/-- What holds of a pipeline's call holds of it lifted into the SparseCore program. -/
theorem wp_lift_call (d : Dev nD) (p : Fin 2) (R : sProp 𝕄) (Q : PUnit → sProp 𝕄)
    (h : R ⊢ wp frame (wpE (D (F := F)) 𝒱 (d.tc : Thread nD τ) none) Set.univ (.op (.customCall (Pipeline.entry p) ()) fun _ => .ret ⟨⟩) Q) :
    R ⊢ wp frame (wpE ((K (F := F)).defs (D (F := F))) 𝒱 (SparseCore.T d) none) Set.univ (Prog.lift (.customCall (SparseCore.inner (Pipeline.entry p)) ())) Q := by
  rw [lift_call]
  exact BI.Entails.trans h ((K (F := F)).wp_liftProg (D (F := F)) 𝒱 (SparseCore.T d) Set.univ none _ Q)

variable (B0 : (c : Dev nD) → (w : Fin cfg0.W) → Buf (Elt F) ((cfg0.win w).arr.view.loc (c : Thread nD τ)))
  (B2 : (c : Dev nD) → (w : Fin cfg2.W) → Buf (Elt F) ((cfg2.win w).arr.view.loc (c : Thread nD τ)))

set_option backward.isDefEq.respectTransparency.types false in
/-- The first call as the pipelines' own program runs it. -/
theorem region0_wp (d : Dev nD) (Q : PUnit → sProp 𝕄) :
    iprop((iprop(boundary (d.tc : Thread nD τ) ∗ (reg0 B0 B2).post d) -∗ wp frame (wpE (D (F := F)) 𝒱 (d.tc : Thread nD τ) none) Set.univ (.ret ⟨⟩) Q)
        ∗ boundary (d.tc : Thread nD τ) ∗ (reg0 B0 B2).pre d ∗ levAts (K (F := F)).L (K (F := F)).lev
        ∗ cellsGhost cfgs (EP (F := F)) 0 d ∗ toksInit cfgs (EP (F := F)) 0 d)
      ⊢ wp frame (wpE (D (F := F)) 𝒱 (d.tc : Thread nD τ) none) Set.univ (.op (.customCall (Pipeline.entry 0) ()) fun _ => .ret ⟨⟩) Q := by
  have h := Pipeline.RegionSeg.wp (pcfgs (F := F)) adm (pdats B0 B2) none pin_inj (EP (F := F)) defs₀ 𝒱₀ (K (F := F)).L (K (F := F)).lev (reg0 B0 B2) d none
    (fun _ h => nomatch h) (fun _ => .ret ⟨⟩) Q
  exact h

include B2 in
/-- The first call as @main runs it. -/
theorem wp_call0 (d : Dev nD) (Q : PUnit → sProp 𝕄) :
    iprop(boundary (SparseCore.T d) ∗ ((dat0 B0 d).arrays ((dat0 B0 d).arrAt · 0) ∗ owing (F := F) 0 d) ∗ levAts (K (F := F)).L (K (F := F)).lev
        ∗ cellsGhost cfgs (EP (F := F)) 0 d ∗ toksInit cfgs (EP (F := F)) 0 d
        ∗ (iprop(boundary (SparseCore.T d) ∗ (dat0 B0 d).arrays ((dat0 B0 d).arrAt · cfg0.N) ∗ owing (F := F) 0 d) -∗ Q ⟨⟩))
      ⊢ wp frame (wpE ((K (F := F)).defs (D (F := F))) 𝒱 (SparseCore.T d) none) Set.univ (Prog.lift (.customCall (SparseCore.inner (Pipeline.entry 0)) ())) Q := by
  refine wp_lift_call d 0 _ Q ?_
  have h := region0_wp B0 B2 d Q
  rw [wp_ret, show (reg0 B0 B2).post d = iprop((dat0 B0 d).arrays ((dat0 B0 d).arrAt · cfg0.N) ∗ owing (F := F) 0 d) from rfl,
    show (reg0 B0 B2).pre d = iprop((dat0 B0 d).arrays ((dat0 B0 d).arrAt · 0) ∗ owing (F := F) 0 d) from rfl] at h
  iintro ⟨Hb, Hpre, Hl, Hg, Ht, Hk⟩
  iapply h
  isplitl [Hk]
  · iintro ⟨Hb, Hpost⟩
    imodintro
    iapply Hk
    isplitl [Hb]; · iexact Hb
    iexact Hpost
  isplitl [Hb]; · iexact Hb
  isplitl [Hpre]; · iexact Hpre
  isplitl [Hl]; · iexact Hl
  isplitl [Hg]; · iexact Hg
  iexact Ht

set_option backward.isDefEq.respectTransparency.types false in
/-- The last call as the pipelines' own program runs it. -/
theorem region2_wp (d : Dev nD) (Q : PUnit → sProp 𝕄) :
    iprop((iprop(boundary (d.tc : Thread nD τ) ∗ (reg2 B0 B2).post d) -∗ wp frame (wpE (D (F := F)) 𝒱 (d.tc : Thread nD τ) none) Set.univ (.ret ⟨⟩) Q)
        ∗ boundary (d.tc : Thread nD τ) ∗ (reg2 B0 B2).pre d ∗ levAts (K (F := F)).L (K (F := F)).lev
        ∗ cellsGhost cfgs (EP (F := F)) 1 d ∗ toksInit cfgs (EP (F := F)) 1 d)
      ⊢ wp frame (wpE (D (F := F)) 𝒱 (d.tc : Thread nD τ) none) Set.univ (.op (.customCall (Pipeline.entry 1) ()) fun _ => .ret ⟨⟩) Q := by
  have h := Pipeline.RegionSeg.wp (pcfgs (F := F)) adm (pdats B0 B2) none pin_inj (EP (F := F)) defs₀ 𝒱₀ (K (F := F)).L (K (F := F)).lev (reg2 B0 B2) d none
    (fun _ h => nomatch h) (fun _ => .ret ⟨⟩) Q
  exact h

include B0 in
/-- The last call as @main runs it. -/
theorem wp_call2 (d : Dev nD) (Q : PUnit → sProp 𝕄) :
    iprop(boundary (SparseCore.T d) ∗ ((dat2 B2 d).arrays ((dat2 B2 d).arrAt · 0) ∗ owing (F := F) 1 d) ∗ levAts (K (F := F)).L (K (F := F)).lev
        ∗ cellsGhost cfgs (EP (F := F)) 1 d ∗ toksInit cfgs (EP (F := F)) 1 d
        ∗ (iprop(boundary (SparseCore.T d) ∗ (dat2 B2 d).arrays ((dat2 B2 d).arrAt · cfg2.N) ∗ owing (F := F) 1 d) -∗ Q ⟨⟩))
      ⊢ wp frame (wpE ((K (F := F)).defs (D (F := F))) 𝒱 (SparseCore.T d) none) Set.univ (Prog.lift (.customCall (SparseCore.inner (Pipeline.entry 1)) ())) Q := by
  refine wp_lift_call d 1 _ Q ?_
  have h := region2_wp B0 B2 d Q
  rw [wp_ret, show (reg2 B0 B2).post d = iprop((dat2 B2 d).arrays ((dat2 B2 d).arrAt · cfg2.N) ∗ owing (F := F) 1 d) from rfl,
    show (reg2 B0 B2).pre d = iprop((dat2 B2 d).arrays ((dat2 B2 d).arrAt · 0) ∗ owing (F := F) 1 d) from rfl] at h
  iintro ⟨Hb, Hpre, Hl, Hg, Ht, Hk⟩
  iapply h
  isplitl [Hk]
  · iintro ⟨Hb, Hpost⟩
    imodintro
    iapply Hk
    isplitl [Hb]; · iexact Hb
    iexact Hpost
  isplitl [Hb]; · iexact Hb
  isplitl [Hpre]; · iexact Hpre
  isplitl [Hl]; · iexact Hl
  isplitl [Hg]; · iexact Hg
  iexact Ht

include B2 in
set_option backward.isDefEq.respectTransparency.types false in
/-- The first call's arrays, one by one. -/
theorem arrays0 (d : Dev nD) (f : (w : Fin cfg0.W) → Buf (Elt F) ((cfg0.win w).arr.view.loc (d : Thread nD τ))) :
    ((dat0 B0 d).arrays f : sProp 𝕄)
      = iprop(((SparseCore.T d).loc main_arg0 ↦{fullShare} f 0) ∗ ((SparseCore.T d).loc main_v0 ↦{fullShare} f 1) ∗ ((SparseCore.T d).loc main_v1_0 ↦{fullShare} f 2) ∗ ((SparseCore.T d).loc main_v1_1 ↦{fullShare} f 3)) := by
  refine (Pipeline.arrays_eq cfgs (pdats B0 B2) 0 d launch0.arr_whole (fun w => by unfold Pipeline.Dat.share; split <;> rfl) f).trans ?_
  exact bigSep_W0 _

include B0 in
set_option backward.isDefEq.respectTransparency.types false in
theorem arrays2 (d : Dev nD) (f : (w : Fin cfg2.W) → Buf (Elt F) ((cfg2.win w).arr.view.loc (d : Thread nD τ))) :
    ((dat2 B2 d).arrays f : sProp 𝕄)
      = iprop(((SparseCore.T d).loc main_v4 ↦{fullShare} f 0) ∗ ((SparseCore.T d).loc main_v5 ↦{fullShare} f 1)) := by
  refine (Pipeline.arrays_eq cfgs (pdats B0 B2) 1 d launch2.arr_whole (fun w => by unfold Pipeline.Dat.share; split <;> rfl) f).trans ?_
  exact bigSep_W2 _

end Calls

/-! ## @main on the TensorCore -/

omit [FloatOps F] [Named F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_v0 ↦{fullShare} W main_v0) ∗ ((SparseCore.T d).loc main_v1_0 ↦{fullShare} W main_v1_0) ∗ ((SparseCore.T d).loc main_v1_1 ↦{fullShare} W main_v1_1)
      ∗ ((SparseCore.T d).loc main_v2 ↦{fullShare} W main_v2) ∗ ((SparseCore.T d).loc main_v3 ↦{fullShare} W main_v3) ∗ ((SparseCore.T d).loc main_v4 ↦{fullShare} W main_v4)
      ∗ (SparseCore.T d).loc main_v5 ↦{fullShare} W main_v5) := by
  unfold unscopedBufs
  rw [show (Finset.univ.filter fun b : Ref sig .tc => ¬ b.isScoped) = {main_arg0, main_arg1, main_v0, main_v1_0, main_v1_1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (PP m).st 0 d c)
    = iprop(callSt (F := F) (confX m 0) (accX m 0) d ∗ emp) := by
  show (bigSep (Finset.univ : Finset (Fin 2)) fun c => atCore c.val (callSt (F := F) (confX m 0) (accX m 0) d)) = _
  rw [show (Finset.univ : Finset (Fin 2)) = {0, 1} by decide, SparseCore.bigSep_insert' (by decide), bigSep_singleton]
  show iprop(atCore 0 _ ∗ atCore 1 _) = _
  rw [atCore_zero, atCore_ne Nat.one_ne_zero]

theorem dn0_eq (d : Dev nD) : (bigSep Finset.univ fun c : Fin ((K (F := F)).nCore 0) => (PP m).dn 0 d c)
    = iprop(callDn (F := F) (confX m 0) (accX m 0) d ∗ emp) := by
  show (bigSep (Finset.univ : Finset (Fin 2)) fun c => atCore c.val (callDn (F := F) (confX m 0) (accX m 0) d)) = _
  rw [show (Finset.univ : Finset (Fin 2)) = {0, 1} by decide, SparseCore.bigSep_insert' (by decide), bigSep_singleton]
  show iprop(atCore 0 _ ∗ atCore 1 _) = _
  rw [atCore_zero, atCore_ne Nat.one_ne_zero]

/-- What the TensorCore owes stands beside the rest of its state. -/
theorem tcSt_owing (n : ℕ) (d : Dev nD) : ∃ R : sProp 𝕄, (K (F := F)).tcSt EH d n = iprop(owing (F := F) n d ∗ R) := ⟨_, rfl⟩

/-- The first call's arrays at its entry and at its exit. -/
theorem entry0 (d : Dev nD) : ((dat0 (A0 m) d).arrays ((dat0 (A0 m) d).arrAt · 0) : sProp 𝕄)
    = iprop(((SparseCore.T d).loc main_arg0 ↦{fullShare} at₀ m d main_arg0) ∗ ((SparseCore.T d).loc main_v0 ↦{fullShare} lab m d)
      ∗ ((SparseCore.T d).loc main_v1_0 ↦{fullShare} at₀ m d main_v1_0) ∗ ((SparseCore.T d).loc main_v1_1 ↦{fullShare} at₀ m d main_v1_1)) :=
  arrays0 (A0 m) (A2 m) d _
theorem exit0 (d : Dev nD) : ((dat0 (A0 m) d).arrays ((dat0 (A0 m) d).arrAt · cfg0.N) : sProp 𝕄)
    = iprop(((SparseCore.T d).loc main_arg0 ↦{fullShare} at₀ m d main_arg0) ∗ ((SparseCore.T d).loc main_v0 ↦{fullShare} lab m d)
      ∗ ((SparseCore.T d).loc main_v1_0 ↦{fullShare} confA m d) ∗ ((SparseCore.T d).loc main_v1_1 ↦{fullShare} accA m d)) := by
  rw [arrays0 (A0 m) (A2 m) d, Pipeline.Dat.arrAt_in _ 0 rfl, Pipeline.Dat.arrAt_in _ 1 rfl]
  rfl
/-- The last call's. -/
theorem entry2 (d : Dev nD) : ((dat2 (A2 m) d).arrays ((dat2 (A2 m) d).arrAt · 0) : sProp 𝕄)
    = iprop(((SparseCore.T d).loc main_v4 ↦{fullShare} hist (confX m d) (accX m d)) ∗ ((SparseCore.T d).loc main_v5 ↦{fullShare} at₀ m d main_v5)) :=
  arrays2 (A0 m) (A2 m) d _
theorem exit2 (d : Dev nD) : ((dat2 (A2 m) d).arrays ((dat2 (A2 m) d).arrAt · cfg2.N) : sProp 𝕄)
    = iprop(((SparseCore.T d).loc main_v4 ↦{fullShare} hist (confX m d) (accX m d)) ∗ ((SparseCore.T d).loc main_v5 ↦{fullShare} res m d)) := by
  rw [arrays2 (A0 m) (A2 m) d, Pipeline.Dat.arrAt_in _ 0 rfl]
  rfl

/-- What @main leaves to be read: the arguments as launched and the result. -/
abbrev FIN (d : Dev nD) : sProp 𝕄 :=
  iprop(((SparseCore.T d).loc main_arg0 ↦{fullShare} at₀ m d main_arg0) ∗ ((SparseCore.T d).loc main_arg1 ↦{fullShare} at₀ m d main_arg1)
    ∗ (SparseCore.T d).loc main_v5 ↦{fullShare} res m d)

/-- @main on the TensorCore, from every unscoped buffer as launched. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  obtain ⟨R0, h0⟩ := tcSt_owing (F := F) 0 (0 : Dev nD)
  obtain ⟨R1, h1⟩ := tcSt_owing (F := F) 1 (0 : Dev nD)
  unfold SparseCore.Cfg.tcRes SparseCore.Cfg.tcEnd G
  rw [unscopedBufs_eq, show (Finset.univ : Finset (Fin 2)) = {0, 1} by decide, SparseCore.bigSep_insert' (by decide), bigSep_singleton,
    SparseCore.bigSep_insert' (by decide), bigSep_singleton]
  simp only [main, wp_bind, wp_pure]
  iintro ⟨#Hctx, Hst, ⟨Hb, ⟨Ha0, Ha1, Hv0, Hc, Ha, Hv2, Hv3, Hv4, Hv5⟩, Hts, -⟩, ⟨Hg0, Hg1⟩, Ht0, Ht1⟩
  ihave Hlev := ((K (F := F)).ctx_levAts κ) $$ Hctx
  iapply (wp_reshape (F := F) 0 main_arg1 main_v0 rfl shapeCasts_S16384_S32x1x512 _ _ (by decide) (at₀ m 0 main_arg1) (at₀ m 0 main_v0) (lab m 0) rfl) $$ [-]
  isplitl [Hb]; · iexact Hb
  isplitl [Ha1]; · iexact Ha1
  isplitl [Hv0]; · iexact Hv0
  iintro ⟨Hb, Ha1, Hv0⟩
  ihave Hst' := (Entails.of_eq h0) $$ Hst
  icases Hst' with ⟨HO, HR⟩
  iapply (wp_call0 (A0 m) (A2 m) 0) $$ [-]
  rw [entry0, exit0]
  isplitl [Hb]; · iexact Hb
  isplitl [Ha0 Hv0 Hc Ha HO]
  · isplitr [HO]
    · isplitl [Ha0]; · iexact Ha0
      isplitl [Hv0]; · iexact Hv0
      isplitl [Hc]; · iexact Hc
      iexact Ha
    iexact HO
  isplitl []; · iexact Hlev
  isplitl [Hg0]; · iexact Hg0
  isplitl [Ht0]; · iexact Ht0
  iintro ⟨Hb, ⟨Ha0, Hv0, Hc, Ha⟩, HO⟩
  iapply (wp_reshape (F := F) 0 main_v1_0 main_v2 rfl shapeCasts_S32x1x512_S16384 _ _ (by decide) (confA m 0) (at₀ m 0 main_v2) (confX m 0) rfl) $$ [-]
  isplitl [Hb]; · iexact Hb
  isplitl [Hc]; · iexact Hc
  isplitl [Hv2]; · iexact Hv2
  iintro ⟨Hb, Hc, Hv2⟩
  iapply (wp_reshape (F := F) 0 main_v1_1 main_v3 rfl shapeCasts_S32x1x512_S16384 _ _ (by decide) (accA m 0) (at₀ m 0 main_v3) (accX m 0) rfl) $$ [-]
  isplitl [Hb]; · iexact Hb
  isplitl [Ha]; · iexact Ha
  isplitl [Hv3]; · iexact Hv3
  iintro ⟨Hb, Ha, Hv3⟩
  iapply ((K (F := F)).wp_run (D (F := F)) 𝒱 (EH := EH) (P := PP m) κ 0 0) $$ [-]
  isplitr; · iexact Hctx
  isplitl [HO HR]
  · iapply (Entails.of_eq h0.symm)
    isplitl [HO] <;> iassumption
  isplitl [Hv2 Hv3 Hv4]
  · rw [st0_eq]
    isplitl [Hv2 Hv3 Hv4]
    · isplitl [Hv2]; · iexact Hv2
      isplitl [Hv3]; · iexact Hv3
      iexists _; iexact Hv4
    iempintro
  iintro ⟨Hst, Hdn⟩
  ihave Hdn' := (Entails.of_eq (dn0_eq m 0)) $$ Hdn
  icases Hdn' with ⟨⟨Hv2, Hv3, Hv4⟩, -⟩
  ihave Hst' := (show (K (F := F)).tcSt EH (0 : Dev nD) ((0 : Fin 1).val + 1) ⊢ iprop(owing (F := F) 1 0 ∗ R1) from Entails.of_eq h1) $$ Hst
  icases Hst' with ⟨HO, HR⟩
  iapply (wp_call2 (A0 m) (A2 m) 0) $$ [-]
  rw [entry2, exit2]
  isplitl [Hb]; · iexact Hb
  isplitl [Hv4 Hv5 HO]
  · isplitr [HO]
    · isplitl [Hv4]; · iexact Hv4
      iexact Hv5
    iexact HO
  isplitl []; · iexact Hlev
  isplitl [Hg1]; · iexact Hg1
  isplitl [Ht1]; · iexact Ht1
  iintro ⟨Hb, ⟨Hv4, Hv5⟩, HO⟩
  imodintro
  isplitl [HO HR]
  · iapply (Entails.of_eq h1.symm)
    isplitl [HO] <;> iassumption
  isplitr [Hb Hts]
  · isplitl [Ha0]; · iexact Ha0
    isplitl [Ha1]; · iexact Ha1
    iexact Hv5
  isplitl [Hb] <;> iassumption

/-- What the final state is read for. -/
def fq (d : Dev nD) (s' : Phys nD τ sig (Elt F)) : Prop :=
  s'.mem.mem ((SparseCore.T d).loc main_arg0) = at₀ m d main_arg0 ∧ s'.mem.mem ((SparseCore.T d).loc main_arg1) = at₀ m d main_arg1
    ∧ s'.mem.mem ((SparseCore.T d).loc main_v5) = res m d

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := (SparseCore.T d).loc main_arg0) (I := Finset.univ) (q := fullShare) (f := at₀ m d main_arg0))) $$ [HSI Hi]
  · isplitl [HSI] <;> iassumption
  icases H with ⟨%h1, HSI, -⟩
  ihave H := (persistent_entails_right (SI_pointsTo_agree (st := s') (ℓ := (SparseCore.T d).loc main_arg1) (I := Finset.univ) (q := fullShare) (f := at₀ m d main_arg1))) $$ [HSI Hx]
  · isplitl [HSI] <;> iassumption
  icases H with ⟨%h2, HSI, -⟩
  ihave H := (SI_pointsTo_agree (st := s') (ℓ := (SparseCore.T d).loc main_v5) (I := Finset.univ) (q := fullShare) (f := res m d)) $$ [HSI Hr]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

/-- The run's conclusion. -/
def QC : PUnit × MemSt nD τ sig (Elt F) → Prop := fun r =>
  (∀ c : Dev nD, r.2.mem ((SparseCore.T c).loc main_arg0) = at₀ m c main_arg0 ∧ r.2.mem ((SparseCore.T c).loc main_arg1) = at₀ m c main_arg1
    ∧ r.2.mem ((SparseCore.T c).loc main_v5) = res m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (confX m 0) (accX m 0) facts)
    (fun q _ => match q with | 0 => SparseCore.Cfg.VecSplit.of_plain (vecSplit (confX m 0) (accX m 0)))
    m ρ main (fun d => G (F := F) d) (FIN m) (u₀ (F := F)) (sep_elim_left.trans (hu₀ m)) (hmain m ρ) (fq m) (hfin m) (QC m) (fun _ h hz => ⟨h, hz⟩)

end Cert.Proof.KernelIdealRun

end
-- ==== Proof.Ref.lean ====
/-
  The reference's run: its host operations in order, and what they leave in the result, stage by stage — the rows'
  largest values, their first positions, the bins' bounds, the bins' members, the sums over them, and the error.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The reduction that finds a row's first maximum: its value and its place. -/
def firstMax : (⟨S16384x1000, .f32⟩ : BufTy).Contents (Elt F) → (⟨S16384x1000, .i32⟩ : BufTy).Contents (Elt F) → (⟨S_, .f32⟩ : BufTy).Contents (Elt F) → (⟨S_, .i32⟩ : BufTy).Contents (Elt F) → (⟨S16384, .f32⟩ : BufTy).Contents (Elt F) :=
  fun x y u v j => (Host.argReduce reducer_argmax_f32_i32 x y u v reducesTo_S16384x1000_S16384_d1 h_S_ j).1
def firstMaxAt : (⟨S16384x1000, .f32⟩ : BufTy).Contents (Elt F) → (⟨S16384x1000, .i32⟩ : BufTy).Contents (Elt F) → (⟨S_, .f32⟩ : BufTy).Contents (Elt F) → (⟨S_, .i32⟩ : BufTy).Contents (Elt F) → (⟨S16384, .i32⟩ : BufTy).Contents (Elt F) :=
  fun x y u v j => (Host.argReduce reducer_argmax_f32_i32 x y u v reducesTo_S16384x1000_S16384_d1 h_S_ j).2

/-- Fifteen numbers and one more. -/
def joined : (⟨S15, .f32⟩ : BufTy).Contents (Elt F) → (⟨S1, .f32⟩ : BufTy).Contents (Elt F) → (⟨S16, .f32⟩ : BufTy).Contents (Elt F) :=
  fun a b => concatenate S16 0 [⟨S15, a⟩, ⟨S1, b⟩] concatenates_S15_S1_S16_d0

/-- A row's largest value. -/
def rmax (X : S16384x1000.Idx → F .f32) : S16384.Idx → F .f32 :=
  Host.reduce FloatOps.maximumf X (constant S_ .f32 0xFF800000#32) reducesTo_S16384x1000_S16384_d1 h_S_
/-- Its first place. -/
def rarg (X : S16384x1000.Idx → F .f32) : S16384.Idx → BitVec 32 :=
  firstMaxAt X (iotaInDim S16384x1000 32 1) (constant S_ .f32 0xFF800000#32) (constantI S_ 32 0#32)
/-- One where it is the label. -/
def racc (X : S16384x1000.Idx → F .f32) (Y : S16384.Idx → BitVec 32) : S16384.Idx → F .f32 :=
  uitofp .f32 (cmpi .eq (rarg X) Y)

/-- The fifteenths. -/
def rfrac : S15.Idx → F .f32 :=
  Host.divf (sitofp .f32 (iotaInDim S15 32 0)) (broadcastInDim S15 ![] bcast_S_S15 (constant S_ .f32 0x41700000#32))
/-- The bins' bounds. -/
def rlin : S16.Idx → F .f32 :=
  joined (addf (mulf (broadcastInDim S15 ![0] bcast_S1_S15_0 (shapeCast S1 (id (constant S_ .f32 0x00000000#32)) shapeCasts_S_S1))
      (subf (broadcastInDim S15 ![] bcast_S_S15 (constant S_ .f32 0x3F800000#32)) rfrac))
    (mulf (broadcastInDim S15 ![0] bcast_S1_S15_0 (shapeCast S1 (id (constant S_ .f32 0x3F800000#32)) shapeCasts_S_S1)) rfrac))
    (broadcastInDim S1 ![] bcast_S_S1 (id (constant S_ .f32 0x3F800000#32)))
def rlow : S15.Idx → F .f32 := extractStridedSlice S15 ![0] rlin slices_S16_S15_0
def rupp : S15.Idx → F .f32 := extractStridedSlice S15 ![1] rlin slices_S16_S15_1

/-- One number per row, the same for every bin; one per bin, the same for every row. -/
def perRow (v : S16384.Idx → F .f32) : S15x16384.Idx → F .f32 :=
  broadcastInDim S15x16384 ![0, 1] bcast_S1x16384_S15x16384_0_1 (broadcastInDim S1x16384 ![1] bcast_S16384_S1x16384_1 v)
def perBin (v : S15.Idx → F .f32) : S15x16384.Idx → F .f32 :=
  broadcastInDim S15x16384 ![0, 1] bcast_S15x1_S15x16384_0_1 (broadcastInDim S15x1 ![0] bcast_S15_S15x1_0 v)

/-- One where the row's value is in the bin. -/
def rmask (c : S16384.Idx → F .f32) : S15x16384.Idx → F .f32 :=
  uitofp .f32 (andi (cmpf .ogt (perRow c) (perBin rlow)) (cmpf .ole (perRow c) (perBin rupp)))
/-- A bin's sum over the rows. -/
def rsum (v : S15x16384.Idx → F .f32) : S15.Idx → F .f32 :=
  Host.reduceAdd v (constant S_ .f32 0x00000000#32) reducesTo_S15x16384_S15_d1 h_S_
/-- A bin's number of rows. -/
def rcnt (c : S16384.Idx → F .f32) : S15.Idx → F .f32 := rsum (rmask c)
/-- A bin's average. -/
def ravg (c v : S16384.Idx → F .f32) : S15.Idx → F .f32 :=
  Host.divf (rsum (mulf (rmask c) (perRow v))) (maximumf (rcnt c) (broadcastInDim S15 ![] bcast_S_S15 (constant S_ .f32 0x3F800000#32)))
/-- A bin's part of the error. -/
def rgap (c a : S16384.Idx → F .f32) : S15.Idx → F .f32 :=
  select (cmpf .ogt (rcnt c) (broadcastInDim S15 ![] bcast_S_S15 (constant S_ .f32 0x00000000#32)))
    (mulf (Host.absf (subf (ravg c c) (ravg c a))) (Host.divf (rcnt c) (broadcastInDim S15 ![] bcast_S_S15 (constant S_ .f32 0x46800000#32))))
    (broadcastInDim S15 ![] bcast_S_S15 (id (constant S_ .f32 0x00000000#32)))
/-- The error. -/
def rres (X : S16384x1000.Idx → F .f32) (Y : S16384.Idx → BitVec 32) : S1.Idx → F .f32 :=
  shapeCast S1 (Host.reduceAdd (rgap (rmax X) (racc X Y)) (constant S_ .f32 0x00000000#32) reducesTo_S15_S_d0 h_S_) shapeCasts_S_S1

/-! ## The run -/

/-- @main's operations in order, a called function's in its call's place. -/
abbrev ops : List (HloOp τ sig (Elt F)) :=
  [ nullary main_cst (constant S_ .f32 0xFF800000#32),
    binary main_arg0 main_cst main_v0 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    TRef.nullary (TRef.of (T := ⟨S16384x1000, .i32⟩) main_call0_v0) (iotaInDim S16384x1000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x1000, .f32⟩) main_arg0) (TRef.of (T := ⟨S16384x1000, .i32⟩) main_call0_v0) (TRef.of (T := ⟨S_, .f32⟩) main_call0_cst) (TRef.of (T := ⟨S_, .i32⟩) main_call0_c) (TRef.of (T := ⟨S16384, .f32⟩) main_call0_v1_0) firstMax,
    TRef.quaternary (TRef.of (T := ⟨S16384x1000, .f32⟩) main_arg0) (TRef.of (T := ⟨S16384x1000, .i32⟩) main_call0_v0) (TRef.of (T := ⟨S_, .f32⟩) main_call0_cst) (TRef.of (T := ⟨S_, .i32⟩) main_call0_c) (TRef.of (T := ⟨S16384, .i32⟩) main_v1) firstMaxAt,
    binary main_v1 main_arg1 main_v2 (cmpi .eq : (⟨S16384, .i32⟩ : BufTy).Contents (Elt F) → (⟨S16384, .i32⟩ : BufTy).Contents (Elt F) → (⟨S16384, .i1⟩ : BufTy).Contents (Elt F)),
    unary main_v2 main_v3 (uitofp .f32 : (⟨S16384, .i1⟩ : BufTy).Contents (Elt F) → (⟨S16384, .f32⟩ : BufTy).Contents (Elt F)),
    nullary main_cst_0 (constant S_ .f32 0x00000000#32),
    nullary main_cst_1 (constant S_ .f32 0x3F800000#32),
    TRef.unary (TRef.of (T := ⟨S_, .f32⟩) main_cst_0) (TRef.of (T := ⟨S_, .f32⟩) main_call1_v0) id,
    TRef.unary (TRef.of (T := ⟨S_, .f32⟩) main_cst_1) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x41700000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S15, .f32⟩) main_call1_v4) (sitofp .f32 (iotaInDim S15 32 0)),
    TRef.nullary (TRef.of (T := ⟨S_, .f32⟩) main_call1_cst_0) (constant S_ .f32 0x41700000#32),
    TRef.unary (TRef.of (T := ⟨S_, .f32⟩) main_call1_cst_0) (TRef.of (T := ⟨S15, .f32⟩) main_call1_v5) (broadcastInDim S15 ![] bcast_S_S15),
    TRef.binary (TRef.of (T := ⟨S15, .f32⟩) main_call1_v4) (TRef.of (T := ⟨S15, .f32⟩) main_call1_v5) (TRef.of (T := ⟨S15, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S15, .f32⟩) main_call1_v8) (broadcastInDim S15 ![] bcast_S_S15),
    TRef.binary (TRef.of (T := ⟨S15, .f32⟩) main_call1_v8) (TRef.of (T := ⟨S15, .f32⟩) main_call1_v6) (TRef.of (T := ⟨S15, .f32⟩) main_call1_v9) subf,
    TRef.unary (TRef.of (T := ⟨S1, .f32⟩) main_call1_v7) (TRef.of (T := ⟨S15, .f32⟩) main_call1_v10) (broadcastInDim S15 ![0] bcast_S1_S15_0),
    TRef.binary (TRef.of (T := ⟨S15, .f32⟩) main_call1_v10) (TRef.of (T := ⟨S15, .f32⟩) main_call1_v9) (TRef.of (T := ⟨S15, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S15, .f32⟩) main_call1_v13) (broadcastInDim S15 ![0] bcast_S1_S15_0),
    TRef.binary (TRef.of (T := ⟨S15, .f32⟩) main_call1_v13) (TRef.of (T := ⟨S15, .f32⟩) main_call1_v6) (TRef.of (T := ⟨S15, .f32⟩) main_call1_v14) mulf,
    TRef.binary (TRef.of (T := ⟨S15, .f32⟩) main_call1_v11) (TRef.of (T := ⟨S15, .f32⟩) main_call1_v14) (TRef.of (T := ⟨S15, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S15, .f32⟩) main_call1_v15) (TRef.of (T := ⟨S1, .f32⟩) main_call1_v16) (TRef.of (T := ⟨S16, .f32⟩) main_v4) (joined),
    unary main_v4 main_v5 ((extractStridedSlice S15 ![0] · slices_S16_S15_0) : (⟨S16, .f32⟩ : BufTy).Contents (Elt F) → (⟨S15, .f32⟩ : BufTy).Contents (Elt F)),
    unary main_v4 main_v6 ((extractStridedSlice S15 ![1] · slices_S16_S15_1) : (⟨S16, .f32⟩ : BufTy).Contents (Elt F) → (⟨S15, .f32⟩ : BufTy).Contents (Elt F)),
    unary main_v0 main_v7 (broadcastInDim S1x16384 ![1] bcast_S16384_S1x16384_1 : (⟨S16384, .f32⟩ : BufTy).Contents (Elt F) → (⟨S1x16384, .f32⟩ : BufTy).Contents (Elt F)),
    unary main_v5 main_v8 (broadcastInDim S15x1 ![0] bcast_S15_S15x1_0 : (⟨S15, .f32⟩ : BufTy).Contents (Elt F) → (⟨S15x1, .f32⟩ : BufTy).Contents (Elt F)),
    unary main_v7 main_v9 (broadcastInDim S15x16384 ![0, 1] bcast_S1x16384_S15x16384_0_1 : (⟨S1x16384, .f32⟩ : BufTy).Contents (Elt F) → (⟨S15x16384, .f32⟩ : BufTy).Contents (Elt F)),
    unary main_v8 main_v10 (broadcastInDim S15x16384 ![0, 1] bcast_S15x1_S15x16384_0_1 : (⟨S15x1, .f32⟩ : BufTy).Contents (Elt F) → (⟨S15x16384, .f32⟩ : BufTy).Contents (Elt F)),
    binary main_v9 main_v10 main_v11 (cmpf .ogt : (⟨S15x16384, .f32⟩ : BufTy).Contents (Elt F) → (⟨S15x16384, .f32⟩ : BufTy).Contents (Elt F) → (⟨S15x16384, .i1⟩ : BufTy).Contents (Elt F)),
    unary main_v0 main_v12 (broadcastInDim S1x16384 ![1] bcast_S16384_S1x16384_1 : (⟨S16384, .f32⟩ : BufTy).Contents (Elt F) → (⟨S1x16384, .f32⟩ : BufTy).Contents (Elt F)),
    unary main_v6 main_v13 (broadcastInDim S15x1 ![0] bcast_S15_S15x1_0 : (⟨S15, .f32⟩ : BufTy).Contents (Elt F) → (⟨S15x1, .f32⟩ : BufTy).Contents (Elt F)),
    unary main_v12 main_v14 (broadcastInDim S15x16384 ![0, 1] bcast_S1x16384_S15x16384_0_1 : (⟨S1x16384, .f32⟩ : BufTy).Contents (Elt F) → (⟨S15x16384, .f32⟩ : BufTy).Contents (Elt F)),
    unary main_v13 main_v15 (broadcastInDim S15x16384 ![0, 1] bcast_S15x1_S15x16384_0_1 : (⟨S15x1, .f32⟩ : BufTy).Contents (Elt F) → (⟨S15x16384, .f32⟩ : BufTy).Contents (Elt F)),
    binary main_v14 main_v15 main_v16 (cmpf .ole : (⟨S15x16384, .f32⟩ : BufTy).Contents (Elt F) → (⟨S15x16384, .f32⟩ : BufTy).Contents (Elt F) → (⟨S15x16384, .i1⟩ : BufTy).Contents (Elt F)),
    binary main_v11 main_v16 main_v17 (andi : (⟨S15x16384, .i1⟩ : BufTy).Contents (Elt F) → (⟨S15x16384, .i1⟩ : BufTy).Contents (Elt F) → (⟨S15x16384, .i1⟩ : BufTy).Contents (Elt F)),
    unary main_v17 main_v18 (uitofp .f32 : (⟨S15x16384, .i1⟩ : BufTy).Contents (Elt F) → (⟨S15x16384, .f32⟩ : BufTy).Contents (Elt F)),
    nullary main_cst_2 (constant S_ .f32 0x00000000#32),
    binary main_v18 main_cst_2 main_v19 ((fun x v => Host.reduceAdd x v reducesTo_S15x16384_S15_d1 h_S_) : (⟨S15x16384, .f32⟩ : BufTy).Contents (Elt F) → (⟨S_, .f32⟩ : BufTy).Contents (Elt F) → (⟨S15, .f32⟩ : BufTy).Contents (Elt F)),
    nullary main_cst_3 (constant S_ .f32 0x46800000#32),
    unary main_cst_3 main_v20 (broadcastInDim S15 ![] bcast_S_S15 : (⟨S_, .f32⟩ : BufTy).Contents (Elt F) → (⟨S15, .f32⟩ : BufTy).Contents (Elt F)),
    binary main_v19 main_v20 main_v21 (Host.divf : (⟨S15, .f32⟩ : BufTy).Contents (Elt F) → (⟨S15, .f32⟩ : BufTy).Contents (Elt F) → (⟨S15, .f32⟩ : BufTy).Contents (Elt F)),
    nullary main_cst_4 (constant S_ .f32 0x3F800000#32),
    unary main_cst_4 main_v22 (broadcastInDim S15 ![] bcast_S_S15 : (⟨S_, .f32⟩ : BufTy).Contents (Elt F) → (⟨S15, .f32⟩ : BufTy).Contents (Elt F)),
    binary main_v19 main_v22 main_v23 (maximumf : (⟨S15, .f32⟩ : BufTy).Contents (Elt F) → (⟨S15, .f32⟩ : BufTy).Contents (Elt F) → (⟨S15, .f32⟩ : BufTy).Contents (Elt F)),
    unary main_v3 main_v24 (broadcastInDim S1x16384 ![1] bcast_S16384_S1x16384_1 : (⟨S16384, .f32⟩ : BufTy).Contents (Elt F) → (⟨S1x16384, .f32⟩ : BufTy).Contents (Elt F)),
    unary main_v24 main_v25 (broadcastInDim S15x16384 ![0, 1] bcast_S1x16384_S15x16384_0_1 : (⟨S1x16384, .f32⟩ : BufTy).Contents (Elt F) → (⟨S15x16384, .f32⟩ : BufTy).Contents (Elt F)),
    binary main_v18 main_v25 main_v26 (mulf : (⟨S15x16384, .f32⟩ : BufTy).Contents (Elt F) → (⟨S15x16384, .f32⟩ : BufTy).Contents (Elt F) → (⟨S15x16384, .f32⟩ : BufTy).Contents (Elt F)),
    nullary main_cst_5 (constant S_ .f32 0x00000000#32),
    binary main_v26 main_cst_5 main_v27 ((fun x v => Host.reduceAdd x v reducesTo_S15x16384_S15_d1 h_S_) : (⟨S15x16384, .f32⟩ : BufTy).Contents (Elt F) → (⟨S_, .f32⟩ : BufTy).Contents (Elt F) → (⟨S15, .f32⟩ : BufTy).Contents (Elt F)),
    binary main_v27 main_v23 main_v28 (Host.divf : (⟨S15, .f32⟩ : BufTy).Contents (Elt F) → (⟨S15, .f32⟩ : BufTy).Contents (Elt F) → (⟨S15, .f32⟩ : BufTy).Contents (Elt F)),
    unary main_v0 main_v29 (broadcastInDim S1x16384 ![1] bcast_S16384_S1x16384_1 : (⟨S16384, .f32⟩ : BufTy).Contents (Elt F) → (⟨S1x16384, .f32⟩ : BufTy).Contents (Elt F)),
    unary main_v29 main_v30 (broadcastInDim S15x16384 ![0, 1] bcast_S1x16384_S15x16384_0_1 : (⟨S1x16384, .f32⟩ : BufTy).Contents (Elt F) → (⟨S15x16384, .f32⟩ : BufTy).Contents (Elt F)),
    binary main_v18 main_v30 main_v31 (mulf : (⟨S15x16384, .f32⟩ : BufTy).Contents (Elt F) → (⟨S15x16384, .f32⟩ : BufTy).Contents (Elt F) → (⟨S15x16384, .f32⟩ : BufTy).Contents (Elt F)),
    nullary main_cst_6 (constant S_ .f32 0x00000000#32),
    binary main_v31 main_cst_6 main_v32 ((fun x v => Host.reduceAdd x v reducesTo_S15x16384_S15_d1 h_S_) : (⟨S15x16384, .f32⟩ : BufTy).Contents (Elt F) → (⟨S_, .f32⟩ : BufTy).Contents (Elt F) → (⟨S15, .f32⟩ : BufTy).Contents (Elt F)),
    binary main_v32 main_v23 main_v33 (Host.divf : (⟨S15, .f32⟩ : BufTy).Contents (Elt F) → (⟨S15, .f32⟩ : BufTy).Contents (Elt F) → (⟨S15, .f32⟩ : BufTy).Contents (Elt F)),
    binary main_v33 main_v28 main_v34 (subf : (⟨S15, .f32⟩ : BufTy).Contents (Elt F) → (⟨S15, .f32⟩ : BufTy).Contents (Elt F) → (⟨S15, .f32⟩ : BufTy).Contents (Elt F)),
    unary main_v34 main_v35 (Host.absf : (⟨S15, .f32⟩ : BufTy).Contents (Elt F) → (⟨S15, .f32⟩ : BufTy).Contents (Elt F)),
    binary main_v35 main_v21 main_v36 (mulf : (⟨S15, .f32⟩ : BufTy).Contents (Elt F) → (⟨S15, .f32⟩ : BufTy).Contents (Elt F) → (⟨S15, .f32⟩ : BufTy).Contents (Elt F)),
    nullary main_cst_7 (constant S_ .f32 0x00000000#32),
    unary main_cst_7 main_v37 (broadcastInDim S15 ![] bcast_S_S15 : (⟨S_, .f32⟩ : BufTy).Contents (Elt F) → (⟨S15, .f32⟩ : BufTy).Contents (Elt F)),
    binary main_v19 main_v37 main_v38 (cmpf .ogt : (⟨S15, .f32⟩ : BufTy).Contents (Elt F) → (⟨S15, .f32⟩ : BufTy).Contents (Elt F) → (⟨S15, .i1⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S15, .f32⟩) main_call2_v1) (broadcastInDim S15 ![] bcast_S_S15),
    TRef.ternary (TRef.of (T := ⟨S15, .i1⟩) main_v38) (TRef.of (T := ⟨S15, .f32⟩) main_v36) (TRef.of (T := ⟨S15, .f32⟩) main_call2_v1) (TRef.of (T := ⟨S15, .f32⟩) main_v39) select,
    nullary main_cst_9 (constant S_ .f32 0x00000000#32),
    binary main_v39 main_cst_9 main_v40 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    reshape main_v40 main_v41 (rfl : (.f32 : EltTy) = .f32) shapeCasts_S_S1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., nullary_bufs_sub .., nullary_bufs_sub .., quaternary_bufs_sub ..,
    quaternary_bufs_sub .., binary_bufs_sub .., unary_bufs_sub .., nullary_bufs_sub .., nullary_bufs_sub .., unary_bufs_sub ..,
    unary_bufs_sub .., binary_bufs_sub .., nullary_bufs_sub .., binary_bufs_sub .., nullary_bufs_sub .., nullary_bufs_sub ..,
    unary_bufs_sub .., binary_bufs_sub .., reshape_bufs_sub .., nullary_bufs_sub .., unary_bufs_sub .., binary_bufs_sub ..,
    unary_bufs_sub .., binary_bufs_sub .., reshape_bufs_sub .., unary_bufs_sub .., binary_bufs_sub .., binary_bufs_sub ..,
    unary_bufs_sub .., binary_bufs_sub .., unary_bufs_sub .., unary_bufs_sub .., unary_bufs_sub .., unary_bufs_sub .., unary_bufs_sub ..,
    unary_bufs_sub .., binary_bufs_sub .., unary_bufs_sub .., unary_bufs_sub .., unary_bufs_sub .., unary_bufs_sub .., binary_bufs_sub ..,
    binary_bufs_sub .., unary_bufs_sub .., nullary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., nullary_bufs_sub .., binary_bufs_sub .., binary_bufs_sub .., unary_bufs_sub .., unary_bufs_sub ..,
    binary_bufs_sub .., nullary_bufs_sub .., binary_bufs_sub .., binary_bufs_sub .., binary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., binary_bufs_sub .., reshape_bufs_sub ..⟩

set_option maxRecDepth 8192 in
set_option maxHeartbeats 30800000 in
/-- Every execution ends with the result at the stages' composition and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = rres (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (by
        simp only [ops, TRef.binary, TRef.nullary, TRef.reshape, TRef.ternary, TRef.quaternary, TRef.unary, TRef.toBuf, TRef.ofBuf, cast_eq]
        after_results_simp <;> rfl),
      (h c main_arg0).trans (by
        simp only [ops, TRef.binary, TRef.nullary, TRef.reshape, TRef.ternary, TRef.quaternary, TRef.unary, TRef.toBuf, TRef.ofBuf, cast_eq]
        after_results_simp <;> rfl),
      (h c main_arg1).trans (by
        simp only [ops, TRef.binary, TRef.nullary, TRef.reshape, TRef.ternary, TRef.quaternary, TRef.unary, TRef.toBuf, TRef.ofBuf, cast_eq]
        after_results_simp <;> rfl)⟩)
    (run_seq scopedRefs_eq scopedSems_eq defs main (fun _ => ops) main_eq (fun _ => ops_sub) m ρ)

/-- The reference terminates, its arguments unchanged. -/
theorem frame : Cert.quiescent_ReferenceIdeal := fun m ρ _ =>
  (θ_run Cert.ReferenceIdeal.defs _ _).mono (fun r h => ⟨fun c => (h c).2, Idealize.ShloMosaic.sem_eq_zero_of_no_sems (by decide) r.2⟩)
    (run (F := Ideal) m ρ)

end Cert.Proof.Reference

end
-- ==== Proof.Frames.lean ====
/-
  The kernel and its idealization terminate with their arguments unchanged and every semaphore at zero, and the one
  constant the idealization names is one fifteenth.
-/
module

public import proofs.«01_k».proof.Proof.Kernel.Launch
public import proofs.«01_k».proof.Proof.KernelIdeal.Launch
public import proofs.«01_k».proof.Proof.Ref

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => ⟨(h.1 c).1, (h.1 c).2.1⟩, h.2⟩) (KernelRun.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (KernelIdealRun.run_main (F := Ideal) m ρ)

theorem preserves : Cert.preserves_Kernel_KernelIdeal :=
  IdealRules.named_const.statement Cert.KernelIdeal.κ "step" .f32 0x3D888889#32 ((15⁻¹ : ℝ) : EReal) rfl

end Cert.Proof

end
-- ==== Proof.Value.Trip.lean ====
/-
  What a SparseCore tile adds up, over the extended reals: one trip adds, in every lane, the sixteen elements it reads;
  all the trips the tile's 1024; and the rows the tile writes are those sums.
-/
module

public import proofs.«01_k».proof.Proof.KernelIdeal.Common
public import Idealize.ShloMosaic.Lib.ValueIdx
public import Idealize.ShloMosaic.Lib.Pipeline.Value
public import Idealize.ShloMosaic.PureOps.Ideal.Laws

@[expose] public section

noncomputable section

namespace Cert.Proof.Value

open Cert.KernelIdeal Cert.KernelIdeal.Gen Cert.Proof.KernelIdealRun
open Idealize.ShloMosaic Idealize.ShloMosaic.ValueIdx
open scoped BigOperators

/-- One where `x` is in lane `i`'s bin, zero elsewhere. -/
def memb (i : S16.Idx) (x : EReal) : EReal :=
  Scalar.select (IntOp.andi (FloatOps.cmpf (F := Ideal) (φ := .f32) .ogt x (k1_pay3 (F := Ideal) i)) (FloatOps.cmpf (F := Ideal) (φ := .f32) .ole x (k1_pay4 (F := Ideal) i)))
    (Scalar.ofBits (F := Ideal) .f32 0x3F800000#32) (Scalar.ofBits (F := Ideal) .f32 0x00000000#32)

theorem slice_lt {k : ℕ} (h : S16.Slices ![k] S1) : k < 16 := h.2 0

/-- The element a one-element slice holds. -/
theorem slice_at {α : Type} (k : ℕ) (u : S16.Idx → α) (h : S16.Slices ![k] S1) (h' : ∀ a, (![0] : Fin S1.rank → ℕ) a < S1.size a) :
    extractAt ![0] (extractStridedSlice S1 ![k] u h) h' = u (ix1 (⟨k, slice_lt h⟩ : Fin 16)) := by
  unfold extractAt extractStridedSlice
  congr 1
  funext a
  match a with
  | ⟨0, _⟩ => rfl

theorem k1_pay8_eq (v : Vec Ideal S16 .f32) : k1_pay8 v = v := shapeCast_self _ _
theorem k1_pay9_eq (v : Vec Ideal S16 .f32) : k1_pay9 v = v := shapeCast_self _ _

/-- A sum of sixteen terms, the terms in order. -/
theorem sum16 (f : Fin 16 → EReal) (z : EReal) : z + ∑ j : Fin 16, f j
    = z + f 0 + f 1 + f 2 + f 3 + f 4 + f 5 + f 6 + f 7 + f 8 + f 9 + f 10 + f 11 + f 12 + f 13 + f 14 + f 15 := by
  simp only [Fin.sum_univ_succ, Fin.sum_univ_zero, add_zero, ← add_assoc]
  rfl

theorem trip_cnt (v w : Vec Ideal S16 .f32) (a : Acc Ideal) (i : S16.Idx) :
    (trip v w a).1 i = a.1 i + ∑ j : Fin 16, memb i (v (ix1 j)) := by
  rw [sum16]
  unfold trip
  simp only [k1_pay8_eq, k1_pay9_eq, k1_pay10, k1_pay12, k1_pay17, k1_pay22, k1_pay24, k1_pay29, k1_pay31, k1_pay33, k1_pay35, k1_pay40, k1_pay42,
    k1_pay45, k1_pay50, k1_pay52, k1_pay56, k1_pay60, k1_pay62, k1_pay11, k1_pay13, k1_pay14, k1_pay19, k1_pay20, k1_pay21, k1_pay23, k1_pay25, k1_pay26,
    k1_pay32, k1_pay34, k1_pay36, k1_pay37, k1_pay41, k1_pay43, k1_pay46, k1_pay47, k1_pay51, k1_pay53, k1_pay57, k1_pay58, k1_pay61, k1_pay63, k1_pay64, slice_at]
  rfl

theorem trip_acc (v w : Vec Ideal S16 .f32) (a : Acc Ideal) (i : S16.Idx) :
    (trip v w a).2.1 i = a.2.1 i + ∑ j : Fin 16, memb i (v (ix1 j)) * w (ix1 j) := by
  rw [sum16]
  unfold trip
  simp only [k1_pay8_eq, k1_pay9_eq, k1_pay10, k1_pay12, k1_pay17, k1_pay18, k1_pay22, k1_pay24, k1_pay29, k1_pay30, k1_pay31, k1_pay33, k1_pay35, k1_pay40, k1_pay42,
    k1_pay45, k1_pay50, k1_pay52, k1_pay56, k1_pay60, k1_pay62, k1_pay11, k1_pay13, k1_pay15, k1_pay19, k1_pay20, k1_pay21, k1_pay23, k1_pay25, k1_pay27,
    k1_pay32, k1_pay34, k1_pay36, k1_pay38, k1_pay41, k1_pay43, k1_pay46, k1_pay48, k1_pay51, k1_pay53, k1_pay54, k1_pay57, k1_pay59, k1_pay61, k1_pay63, k1_pay65, slice_at]
  rfl

theorem trip_conf (v w : Vec Ideal S16 .f32) (a : Acc Ideal) (i : S16.Idx) :
    (trip v w a).2.2 i = a.2.2 i + ∑ j : Fin 16, memb i (v (ix1 j)) * v (ix1 j) := by
  rw [sum16]
  unfold trip
  simp only [k1_pay8_eq, k1_pay10, k1_pay12, k1_pay16, k1_pay17, k1_pay22, k1_pay24, k1_pay28, k1_pay29, k1_pay31, k1_pay33, k1_pay35, k1_pay39, k1_pay40, k1_pay42,
    k1_pay44, k1_pay45, k1_pay49, k1_pay50, k1_pay52, k1_pay55, k1_pay56, k1_pay60, k1_pay62, k1_pay11, k1_pay13, k1_pay19, k1_pay20, k1_pay21, k1_pay23, k1_pay25,
    k1_pay32, k1_pay34, k1_pay36, k1_pay41, k1_pay43, k1_pay46, k1_pay51, k1_pay53, k1_pay57, k1_pay61, k1_pay63, k1_pay66, slice_at]
  rfl

/-! ## All the trips -/

/-- The element at a place, the place taken modulo the chunk's length. -/
def el {n : ℕ} [NeZero n] (x : (⟨1, ![n]⟩ : Shape).Idx → EReal) (k : ℕ) : EReal := x (ix1 (Fin.ofNat n k))

theorem trips_le : k1_t1_loop.trips ≤ 64 := k1_t1_abs.2.1
theorem trips_eq : k1_t1_loop.trips = 64 := by decide

theorem ld_el (x : S1024.Idx → Ideal .f32) (k : Fin k1_t1_loop.trips) (j : Fin 16) :
    View.ld (Val := Elt Ideal) (e' := .f32) x (rT k) (ix1 j) = el (n := 1024) x (16 * k.val + j.val) := by
  have hk : k.val < 64 := Nat.lt_of_lt_of_le k.isLt trips_le
  unfold View.ld el
  congr 1
  funext a
  match a with
  | ⟨0, _⟩ =>
    refine Fin.ext ?_
    have e : (k1_off2 k) 0 = 16 * k.val := by rw [k1_off2_eq]; rfl
    show (k1_off2 k) 0 + 1 * j.val = (16 * k.val + j.val) % 1024
    rw [e, Nat.mod_eq_of_lt (by omega)]; omega

/-- The sixteen elements trip `k` reads. -/
def seg (x : S1024.Idx → Ideal .f32) (k : Fin k1_t1_loop.trips) : Vec Ideal S16 .f32 := View.ld (Val := Elt Ideal) (e' := .f32) x (rT k)

theorem seg_el (x : S1024.Idx → Ideal .f32) (k : Fin k1_t1_loop.trips) (j : Fin 16) : seg x k (ix1 j) = el (n := 1024) x (16 * k.val + j.val) := ld_el x k j

theorem accs_sum (x y : S1024.Idx → Ideal .f32) (i : S16.Idx) : ∀ k : ℕ, k ≤ 64 →
    (accs x y k).1 i = ∑ n ∈ Finset.range (16 * k), memb i (el (n := 1024) x n)
    ∧ (accs x y k).2.1 i = ∑ n ∈ Finset.range (16 * k), memb i (el (n := 1024) x n) * el (n := 1024) y n
    ∧ (accs x y k).2.2 i = ∑ n ∈ Finset.range (16 * k), memb i (el (n := 1024) x n) * el (n := 1024) x n
  | 0, _ => by
    have z : (k1_pay1 (F := Ideal)) i = 0 := Ideal.ofBits_zero_f32
    exact ⟨z, z, z⟩
  | k + 1, hk => by
    obtain ⟨h1, h2, h3⟩ := accs_sum x y i k (by omega)
    have ht : k < k1_t1_loop.trips := by rw [trips_eq]; omega
    have e : accs x y (k + 1) = trip (seg x ⟨k, ht⟩) (seg y ⟨k, ht⟩) (accs x y k) := by
      show dite _ _ _ = _
      rw [dif_pos ht]; rfl
    rw [e, trip_cnt, trip_acc, trip_conf, h1, h2, h3, show 16 * (k + 1) = 16 * k + 16 from by omega]
    simp only [Finset.sum_range_add, seg_el, Finset.sum_range (n := 16), and_self]

/-- The three sums of a tile's chunk. -/
theorem accs_all (x y : S1024.Idx → Ideal .f32) (i : S16.Idx) :
    (accs x y k1_t1_loop.trips).1 i = ∑ n : Fin 1024, memb i (x (ix1 n))
    ∧ (accs x y k1_t1_loop.trips).2.1 i = ∑ n : Fin 1024, memb i (x (ix1 n)) * y (ix1 n)
    ∧ (accs x y k1_t1_loop.trips).2.2 i = ∑ n : Fin 1024, memb i (x (ix1 n)) * x (ix1 n) := by
  have e : ∀ (u : S1024.Idx → Ideal .f32) (n : Fin 1024), el (n := 1024) u n.val = u (ix1 n) := fun u n => by
    unfold el; congr 2; exact Fin.ext (Nat.mod_eq_of_lt n.isLt)
  have h := accs_sum x y i 64 le_rfl
  rw [trips_eq]
  simp only [show 16 * 64 = 1024 from rfl, Finset.sum_range, e] at h
  exact h

/-! ## The rows a tile writes -/

theorem row_at {α : Type} (v : S16.Idx → α) (j : Fin 16) : shapeCast S1x16 v shapeCasts_S16_S1x16 (ix2 (0 : Fin 1) j) = v (ix1 j) := by
  refine shapeCast_apply v _ _ _ ?_
  rw [Shape.rowMajor_val_one, Shape.rowMajor_val_two]
  show j.val = 0 * 16 + j.val
  omega

theorem row_emb {k : ℕ} (h : ∀ a, (![k, 0] : Fin S8x16.rank → ℕ) a + S1x16.size a ≤ S8x16.size a) (hk : k < 8) (j : Fin 16) :
    (ix2 (⟨k, hk⟩ : Fin 8) j : S8x16.Idx) = (Rect.unit (s := S8x16) ![k, 0] S1x16.size h).emb (ix2 (0 : Fin 1) j : S1x16.Idx) := by
  funext a
  match a with
  | ⟨0, _⟩ => exact Fin.ext (show k = k + 1 * 0 by omega)
  | ⟨1, _⟩ => exact Fin.ext (show j.val = 0 + 1 * j.val by omega)

/-- A row written later does not touch an earlier one … -/
theorem row_skip {k : ℕ} (h : ∀ a, (![k, 0] : Fin S8x16.rank → ℕ) a + S1x16.size a ≤ S8x16.size a) (l : Fin 8) (hl : l.val < k) (j : Fin 16)
    (w : S1x16.Idx → Elt Ideal .f32) (L : List (View.Piece (Elt Ideal) S8x16 .f32)) :
    View.canon (⟨Rect.unit (s := S8x16) ![k, 0] S1x16.size h, w⟩ :: L) (ix2 l j) = View.canon L (ix2 l j) :=
  View.canon_cons_of_not_mem ⟨Rect.unit (s := S8x16) ![k, 0] S1x16.size h, w⟩ L fun hm => by
    have h0 : k ≤ l.val := ((Rect.mem_set_unit (s := S8x16) (inb := h)).mp hm 0).1
    omega

/-- … and a row written holds the accumulator it was written from. -/
theorem row_hit {k : ℕ} (h : ∀ a, (![k, 0] : Fin S8x16.rank → ℕ) a + S1x16.size a ≤ S8x16.size a) (hk : k < 8) (j : Fin 16)
    (v : S16.Idx → Elt Ideal .f32) (L : List (View.Piece (Elt Ideal) S8x16 .f32)) :
    View.canon (⟨Rect.unit (s := S8x16) ![k, 0] S1x16.size h, shapeCast S1x16 v shapeCasts_S16_S1x16⟩ :: L) (ix2 (⟨k, hk⟩ : Fin 8) j) = v (ix1 j) := by
  refine (congrArg _ (row_emb h hk j)).trans ?_
  exact (View.canon_cons_emb (Rect.unit (s := S8x16) ![k, 0] S1x16.size h) _ L _).trans (row_at v j)

theorem tileHist_rows (x y : S1024.Idx → Ideal .f32) (j : Fin 16) :
    tileHist x y (ix2 (0 : Fin 8) j) = (accs x y k1_t1_loop.trips).1 (ix1 j)
    ∧ tileHist x y (ix2 (1 : Fin 8) j) = (accs x y k1_t1_loop.trips).2.1 (ix1 j)
    ∧ tileHist x y (ix2 (2 : Fin 8) j) = (accs x y k1_t1_loop.trips).2.2 (ix1 j) := by
  refine ⟨?_, ?_, ?_⟩
  · exact (row_skip _ 0 (by decide) j _ _).trans <| (row_skip _ 0 (by decide) j _ _).trans <| (row_skip _ 0 (by decide) j _ _).trans <|
      (row_skip _ 0 (by decide) j _ _).trans <| (row_skip _ 0 (by decide) j _ _).trans <| (row_skip _ 0 (by decide) j _ _).trans <|
      (row_skip _ 0 (by decide) j _ _).trans <| row_hit inb_S8x16_S1x16_0_0 (by decide) j _ []
  · exact (row_skip _ 1 (by decide) j _ _).trans <| (row_skip _ 1 (by decide) j _ _).trans <| (row_skip _ 1 (by decide) j _ _).trans <|
      (row_skip _ 1 (by decide) j _ _).trans <| (row_skip _ 1 (by decide) j _ _).trans <| (row_skip _ 1 (by decide) j _ _).trans <|
      row_hit inb_S8x16_S1x16_1_0 (by decide) j _ _
  · exact (row_skip _ 2 (by decide) j _ _).trans <| (row_skip _ 2 (by decide) j _ _).trans <| (row_skip _ 2 (by decide) j _ _).trans <|
      (row_skip _ 2 (by decide) j _ _).trans <| (row_skip _ 2 (by decide) j _ _).trans <| row_hit inb_S8x16_S1x16_2_0 (by decide) j _ _

end Cert.Proof.Value

end
-- ==== Proof.Value.Bins.lean ====
/-
  The bins over the extended reals: the kernel's bounds, computed from the lane number and the constant that stands for
  a fifteenth, are the reference's evenly spaced bounds, and lane 15 holds no value at all.
-/
module

public import proofs.«01_k».proof.Proof.Ref
public import proofs.«01_k».proof.Proof.Value.Trip
public import Idealize.ShloMosaic.Lib.IdealHost

@[expose] public section

noncomputable section

namespace Cert.Proof.Value

open Cert.Proof.KernelIdealRun
open Idealize.ShloMosaic Idealize.ShloMosaic.ValueIdx
open scoped BigOperators

/-- `n` fifteenths. -/
def bnd (n : ℕ) : EReal := (((n : ℝ) * 15⁻¹ : ℝ) : EReal)

theorem bnd_last : bnd 15 = 1 := by
  unfold bnd
  rw [show (((15 : ℕ) : ℝ) * 15⁻¹ : ℝ) = 1 by norm_num]; rfl

/-! ## The kernel's -/

theorem lane_num (i : Fin 16) : Cert.KernelIdeal.Gen.k1_pay2 (F := Ideal) (ix1 i) = ((i.val : ℝ) : EReal) := by
  have h : ∀ i : Fin 16, (BitVec.ofNat 32 (0 * 16 + i.val)).toInt = (i.val : ℤ) := by decide
  show (((BitVec.ofNat 32 (0 * 16 + i.val)).toInt : ℝ) : EReal) = _
  rw [h i, Int.cast_natCast]

theorem step_eq : Named.named (F := Ideal) Cert.KernelIdeal.κ "step" (φ := .f32) 0x3D888889#32 = ((15⁻¹ : ℝ) : EReal) := rfl

theorem lane15 : ∀ i : Fin 16, IntOp.cmpi .eq (BitVec.ofNat 32 (0 * 16 + i.val)) 15#32 = if i.val = 15 then 1#1 else 0#1 := by decide
theorem lane14 : ∀ i : Fin 16, IntOp.cmpi .eq (BitVec.ofNat 32 (0 * 16 + i.val)) 14#32 = if i.val = 14 then 1#1 else 0#1 := by decide

theorem low_last : Cert.KernelIdeal.Gen.k1_pay3 (F := Ideal) (ix1 (15 : Fin 16)) = Ideal.ofBits .f32 0x40000000#32 := by
  show Scalar.select (IntOp.cmpi .eq (BitVec.ofNat 32 (0 * 16 + (15 : Fin 16).val)) 15#32) (Ideal.ofBits .f32 0x40000000#32)
    (Cert.KernelIdeal.Gen.k1_pay2 (F := Ideal) (ix1 (15 : Fin 16)) * Named.named (F := Ideal) Cert.KernelIdeal.κ "step" (φ := .f32) 0x3D888889#32) = _
  rw [lane15]; rfl

theorem upp_last : Cert.KernelIdeal.Gen.k1_pay4 (F := Ideal) (ix1 (15 : Fin 16)) = Ideal.ofBits .f32 0x40000000#32 := by
  show Scalar.select (IntOp.cmpi .eq (BitVec.ofNat 32 (0 * 16 + (15 : Fin 16).val)) 15#32) (Ideal.ofBits .f32 0x40000000#32)
    (Scalar.select (IntOp.cmpi .eq (BitVec.ofNat 32 (0 * 16 + (15 : Fin 16).val)) 14#32) (Ideal.ofBits .f32 0x3F800000#32)
      ((Cert.KernelIdeal.Gen.k1_pay2 (F := Ideal) (ix1 (15 : Fin 16)) + Ideal.ofBits .f32 0x3F800000#32)
        * Named.named (F := Ideal) Cert.KernelIdeal.κ "step" (φ := .f32) 0x3D888889#32)) = _
  rw [lane15]; rfl

theorem low_eq (i : Fin 15) : Cert.KernelIdeal.Gen.k1_pay3 (F := Ideal) (ix1 i.castSucc) = bnd i.val := by
  have hi := i.isLt
  show Scalar.select (IntOp.cmpi .eq (BitVec.ofNat 32 (0 * 16 + i.castSucc.val)) 15#32) _
    (Cert.KernelIdeal.Gen.k1_pay2 (F := Ideal) (ix1 i.castSucc) * Named.named (F := Ideal) Cert.KernelIdeal.κ "step" (φ := .f32) 0x3D888889#32) = _
  rw [lane15, if_neg (by simp; omega), select_zero, lane_num, step_eq, ← EReal.coe_mul]
  rfl

theorem upp_eq (i : Fin 15) : Cert.KernelIdeal.Gen.k1_pay4 (F := Ideal) (ix1 i.castSucc) = bnd (i.val + 1) := by
  have hi := i.isLt
  show Scalar.select (IntOp.cmpi .eq (BitVec.ofNat 32 (0 * 16 + i.castSucc.val)) 15#32) _
    (Scalar.select (IntOp.cmpi .eq (BitVec.ofNat 32 (0 * 16 + i.castSucc.val)) 14#32) (Ideal.ofBits .f32 0x3F800000#32)
      ((Cert.KernelIdeal.Gen.k1_pay2 (F := Ideal) (ix1 i.castSucc) + Ideal.ofBits .f32 0x3F800000#32)
        * Named.named (F := Ideal) Cert.KernelIdeal.κ "step" (φ := .f32) 0x3D888889#32)) = _
  rw [lane15, if_neg (by simp; omega), select_zero, lane14]
  by_cases h : i.val = 14
  · rw [if_pos (by simpa using h), select_one, Ideal.ofBits_one_f32, h, bnd_last]
  · rw [if_neg (by simpa using h), select_zero, lane_num, step_eq, Ideal.ofBits_one_f32, ← EReal.coe_one, ← EReal.coe_add, ← EReal.coe_mul]
    unfold bnd; push_cast; rfl

/-! ## The reference's -/

theorem ofBits_fifteen : Ideal.ofBits .f32 0x41700000#32 = ((15 : ℝ) : EReal) := by
  simp [Ideal.ofBits, Ideal.ieee, -EReal.coe_mul]; norm_num

theorem frac_eq (i : Fin 15) : Reference.rfrac (F := Ideal) (ix1 i) = bnd i.val := by
  have h : ∀ i : Fin 15, (BitVec.ofNat 32 i.val).toInt = (i.val : ℤ) := by decide
  show Ideal.div (((BitVec.ofNat 32 i.val).toInt : ℝ) : EReal) (Ideal.ofBits .f32 0x41700000#32) = _
  rw [h i, Int.cast_natCast, ofBits_fifteen, Ideal.div_coe (by norm_num), ← EReal.coe_mul, one_div]
  rfl

theorem lin_eq (n : Fin 16) : Reference.rlin (F := Ideal) (ix1 n) = bnd n.val := by
  unfold Reference.rlin Reference.joined
  by_cases hn : n.val = 15
  · rw [concatenate_pair_apply_right (s₁ := Cert.ReferenceIdeal.S15) (s₂ := Cert.ReferenceIdeal.S1) (t := Cert.ReferenceIdeal.S16) 0 _ _ _ (ix1 n) rfl rfl (ix1 (0 : Fin 1))
      (fun b hb => absurd (Subsingleton.elim _ _) hb) (by show 0 + 15 = n.val; omega)]
    rw [hn, bnd_last]
    exact Ideal.ofBits_one_f32
  · have hlt : n.val < 15 := by omega
    rw [concatenate_pair_apply_left (s₁ := Cert.ReferenceIdeal.S15) (s₂ := Cert.ReferenceIdeal.S1) (t := Cert.ReferenceIdeal.S16) 0 _ _ _ (ix1 n) rfl (ix1 (⟨n.val, hlt⟩ : Fin 15))
      (fun b => by match b with | ⟨0, _⟩ => rfl)]
    show Ideal.ofBits .f32 0x00000000#32 * (Ideal.ofBits .f32 0x3F800000#32 - Reference.rfrac (F := Ideal) (ix1 (⟨n.val, hlt⟩ : Fin 15)))
      + Ideal.ofBits .f32 0x3F800000#32 * Reference.rfrac (F := Ideal) (ix1 (⟨n.val, hlt⟩ : Fin 15)) = _
    rw [Ideal.ofBits_zero_f32, Ideal.ofBits_one_f32, frac_eq, zero_mul, zero_add, one_mul]

theorem rlow_eq (i : Fin 15) : Reference.rlow (F := Ideal) (ix1 i) = bnd i.val := by
  have h := lin_eq i.castSucc
  refine Eq.trans ?_ h
  unfold Reference.rlow extractStridedSlice
  congr 1
  funext a
  match a with
  | ⟨0, _⟩ => exact Fin.ext (show 0 + i.val = i.val by omega)

theorem rupp_eq (i : Fin 15) : Reference.rupp (F := Ideal) (ix1 i) = bnd (i.val + 1) := by
  have h := lin_eq i.succ
  refine Eq.trans ?_ h
  unfold Reference.rupp extractStridedSlice
  congr 1
  funext a
  match a with
  | ⟨0, _⟩ => exact Fin.ext (show 1 + i.val = i.val + 1 by omega)

/-! ## Membership -/

/-- A value is in bin `i` where it is above `i` fifteenths and not above `i + 1`. -/
def inBin (i : Fin 15) (x : EReal) : BitVec 1 :=
  IntOp.andi (FloatOps.cmpf (F := Ideal) (φ := .f32) .ogt x (bnd i.val)) (FloatOps.cmpf (F := Ideal) (φ := .f32) .ole x (bnd (i.val + 1)))

theorem select_bit (b : BitVec 1) : Scalar.select b (1 : EReal) 0 = ((b.toNat : ℝ) : EReal) := by
  rcases BitVec.eq_zero_or_eq_one b with rfl | rfl
  · rw [select_zero]; simp
  · rw [select_one]; simp

theorem memb_eq (i : Fin 15) (x : EReal) : memb (ix1 i.castSucc) x = (((inBin i x).toNat : ℝ) : EReal) := by
  unfold memb
  rw [low_eq, upp_eq]
  show Scalar.select (inBin i x) (Ideal.ofBits .f32 0x3F800000#32) (Ideal.ofBits .f32 0x00000000#32) = _
  rw [Ideal.ofBits_one_f32, Ideal.ofBits_zero_f32]
  exact select_bit _

theorem memb_last (x : EReal) : memb (ix1 (15 : Fin 16)) x = 0 := by
  unfold memb
  rw [low_last, upp_last]
  have h : IntOp.andi (FloatOps.cmpf (F := Ideal) (φ := .f32) .ogt x (Ideal.ofBits .f32 0x40000000#32))
      (FloatOps.cmpf (F := Ideal) (φ := .f32) .ole x (Ideal.ofBits .f32 0x40000000#32)) = 0#1 := by
    simp only [Ideal.cmpf_def, Ideal.cmp]
    by_cases hx : Ideal.ofBits .f32 0x40000000#32 < x
    · rw [decide_eq_true hx, decide_eq_false (not_le.mpr hx)]; rfl
    · rw [decide_eq_false hx]; rcases decide (x ≤ Ideal.ofBits .f32 0x40000000#32) <;> rfl
  rw [h]
  exact Ideal.ofBits_zero_f32

theorem perRow_at (c : Cert.ReferenceIdeal.S16384.Idx → Ideal .f32) (i : Fin 15) (r : Fin 16384) :
    Reference.perRow (F := Ideal) c (ix2 i r) = c (ix1 r) := by
  unfold Reference.perRow
  rw [broadcastInDim_apply _ _ _ _ (ix2 (0 : Fin 1) r) (fun a => by match a with | ⟨0, _⟩ => rfl | ⟨1, _⟩ => rfl),
    broadcastInDim_apply _ _ _ _ (ix1 r) (fun a => by match a with | ⟨0, _⟩ => rfl)]

theorem perBin_at (v : Cert.ReferenceIdeal.S15.Idx → Ideal .f32) (i : Fin 15) (r : Fin 16384) :
    Reference.perBin (F := Ideal) v (ix2 i r) = v (ix1 i) := by
  unfold Reference.perBin
  rw [broadcastInDim_apply _ _ _ _ (ix2 i (0 : Fin 1)) (fun a => by match a with | ⟨0, _⟩ => rfl | ⟨1, _⟩ => rfl),
    broadcastInDim_apply _ _ _ _ (ix1 i) (fun a => by match a with | ⟨0, _⟩ => rfl)]

theorem rmask_at (c : Cert.ReferenceIdeal.S16384.Idx → Ideal .f32) (i : Fin 15) (r : Fin 16384) :
    Reference.rmask (F := Ideal) c (ix2 i r) = memb (ix1 i.castSucc) (c (ix1 r)) := by
  rw [memb_eq]
  show (((IntOp.andi (FloatOps.cmpf (F := Ideal) (φ := .f32) .ogt (Reference.perRow (F := Ideal) c (ix2 i r)) (Reference.perBin (F := Ideal) Reference.rlow (ix2 i r)))
    (FloatOps.cmpf (F := Ideal) (φ := .f32) .ole (Reference.perRow (F := Ideal) c (ix2 i r)) (Reference.perBin (F := Ideal) Reference.rupp (ix2 i r)))).toNat : ℝ) : EReal) = _
  rw [perRow_at, perBin_at, perBin_at, rlow_eq, rupp_eq]
  rfl

end Cert.Proof.Value

end
-- ==== Proof.Value.Combine.lean ====
/-
  The last stage over the extended reals: the kernel adds the tiles' rows of each kind and takes the weighted gaps of
  the sixteen lanes; the reference takes the same gaps of its fifteen bins. Lane 15 counts nothing, so its gap is zero.
-/
module

public import proofs.«01_k».proof.Proof.Value.Bins
public import proofs.«01_k».proof.Proof.KernelIdeal.Region

@[expose] public section

noncomputable section

namespace Cert.Proof.Value

open Cert.KernelIdeal Cert.KernelIdeal.Gen Cert.Proof.KernelIdealRun
open Idealize.ShloMosaic Idealize.ShloMosaic.ValueIdx
open scoped BigOperators

/-- A bin's part of the error, from its number of rows, the sum of their accuracies and the sum of their confidences. -/
def gap (c a f : EReal) : EReal :=
  Scalar.select (FloatOps.cmpf (F := Ideal) (φ := .f32) .ogt c (Ideal.ofBits .f32 0x00000000#32))
    (max (Ideal.div f (max c (Ideal.ofBits .f32 0x3F800000#32)) - Ideal.div a (max c (Ideal.ofBits .f32 0x3F800000#32)))
        (-(Ideal.div f (max c (Ideal.ofBits .f32 0x3F800000#32)) - Ideal.div a (max c (Ideal.ofBits .f32 0x3F800000#32))))
      * Ideal.div c (Ideal.ofBits .f32 0x46800000#32))
    (Ideal.ofBits .f32 0x00000000#32)

/-- An empty bin has none. -/
theorem gap_zero (a f : EReal) : gap 0 a f = 0 := by
  unfold gap
  rw [Ideal.ofBits_zero_f32, Ideal.cmpf_def]
  simp [Ideal.cmp, Scalar.select]

/-! ## The rows of one kind -/

theorem kinds (i : Fin 16) : ∀ r : Fin 128, k2_pay3 (ix2 r i : S128x16.Idx) = BitVec.ofNat 32 (r.val % 8) := by
  have h : ∀ r : Fin 128,
      (let v4 : BitVec 32 := Scalar.select (Scalar.cmpi .eq 8#32 0#32) 1#32 8#32
       let v6 := IntOp.remsi .vector (BitVec.ofNat 32 (0 * 128 + r.val)) v4
       Scalar.select (IntOp.andi (IntOp.xori (IntOp.cmpi .slt v6 0#32) (Scalar.cmpi .slt v4 0#32)) (IntOp.cmpi .ne v6 0#32)) (IntOp.addi v6 v4) v6)
        = BitVec.ofNat 32 (r.val % 8) := by decide
  intro r
  exact h r

theorem is_kind (q : Fin 8) : ∀ r : Fin 128, IntOp.cmpi .eq (BitVec.ofNat 32 (r.val % 8)) (BitVec.ofNat 32 q.val) = if r.val % 8 = q.val then 1#1 else 0#1 := by
  revert q; decide

/-- A sum over the 128 rows that takes those of one kind only is the sum over the sixteen tiles of their row of that kind. -/
theorem kind_sum (q : Fin 8) (f : Fin 128 → EReal) :
    ∑ r : Fin 128, Scalar.select (if r.val % 8 = q.val then 1#1 else 0#1) (f r) 0
      = ∑ s : Fin 16, f ⟨8 * s.val + q.val, by omega⟩ := by
  rw [← (finProdFinEquiv (m := 16) (n := 8)).sum_comp, Fintype.sum_prod_type]
  refine Finset.sum_congr rfl fun s _ => ?_
  rw [Finset.sum_eq_single q]
  · rw [if_pos (by show (q.val + 8 * s.val) % 8 = q.val; omega), select_one]
    congr 1
    exact Fin.ext (show q.val + 8 * s.val = 8 * s.val + q.val by omega)
  · intro p _ hp
    rw [if_neg (by
      have : p.val ≠ q.val := fun e => hp (Fin.ext e)
      show ¬ (p.val + 8 * s.val) % 8 = q.val
      omega), select_zero]
  · intro h; exact absurd (Finset.mem_univ _) h

theorem lift_row (i : Fin 16) (r : Fin 128) : reduces_S128x16_S16.lift (ix1 i) r = ix2 r i := by
  funext a
  match a with
  | ⟨0, _⟩ => rfl
  | ⟨1, _⟩ => rfl

/-- The sum of the rows of one kind, as the kernel takes it: over all rows, the others made zero. -/
theorem rows_of (q : Fin 8) (x : S128x16.Idx → Ideal .f32) (i : Fin 16) (hφ) (hacc) :
    multiReduction .add [0] S16 (select (cmpi .eq k2_pay3 (broadcast S128x16 (BitVec.ofNat 32 q.val))) x
      (broadcast S128x16 (Scalar.ofBits (F := Ideal) .f32 0x00000000#32))) 0x00000000#32 reduces_S128x16_S16 hφ hacc (ix1 i)
      = ∑ s : Fin 16, x (ix2 (⟨8 * s.val + q.val, by omega⟩ : Fin 128) i) := by
  rw [Ideal.multiReduction_add_single]
  refine Eq.trans (Finset.sum_congr rfl fun (r : Fin 128) _ => ?_) (kind_sum q fun r => x (ix2 r i))
  rw [lift_row i r]
  show Scalar.select (IntOp.cmpi .eq (k2_pay3 (ix2 r i)) (BitVec.ofNat 32 q.val)) (x (ix2 r i)) (Ideal.ofBits .f32 0x00000000#32) = _
  rw [kinds, is_kind, Ideal.ofBits_zero_f32]

theorem cnt_rows (x : S128x16.Idx → Ideal .f32) (i : Fin 16) :
    k2_pay4 (F := Ideal) x (ix1 i) = ∑ s : Fin 16, x (ix2 (⟨8 * s.val + 0, by omega⟩ : Fin 128) i) := by
  unfold k2_pay4
  rw [show k2_pay2 x = x from shapeCast_self _ _]
  exact rows_of 0 x i _ _

theorem diff_rows (x : S128x16.Idx → Ideal .f32) (i : Fin 16) :
    k2_pay6 (F := Ideal) x (ix1 i) = Ideal.div (∑ s : Fin 16, x (ix2 (⟨8 * s.val + 2, by omega⟩ : Fin 128) i)) (max (k2_pay4 (F := Ideal) x (ix1 i)) (Ideal.ofBits .f32 0x3F800000#32))
      - Ideal.div (∑ s : Fin 16, x (ix2 (⟨8 * s.val + 1, by omega⟩ : Fin 128) i)) (max (k2_pay4 (F := Ideal) x (ix1 i)) (Ideal.ofBits .f32 0x3F800000#32)) := by
  have h1 := rows_of 1 x i (.inl rfl) rfl
  have h2 := rows_of 2 x i (.inl rfl) rfl
  refine Eq.trans ?_ (congrArg₂ (fun f a : EReal => Ideal.div f (max (k2_pay4 (F := Ideal) x (ix1 i)) (Ideal.ofBits .f32 0x3F800000#32))
    - Ideal.div a (max (k2_pay4 (F := Ideal) x (ix1 i)) (Ideal.ofBits .f32 0x3F800000#32))) h2 h1)
  unfold k2_pay6
  rw [show k2_pay2 x = x from shapeCast_self _ _]
  rfl

/-- The rows of all the tiles, one kind each, are sums over all 16384 rows of the matrix. -/
theorem all_rows (g : Fin 16384 → EReal) :
    ∑ s : Fin 16, ∑ n : Fin 1024, g ⟨1024 * s.val + n.val, by omega⟩ = ∑ r : Fin 16384, g r := by
  rw [← (finProdFinEquiv (m := 16) (n := 1024)).sum_comp, Fintype.sum_prod_type]
  refine Finset.sum_congr rfl fun s _ => Finset.sum_congr rfl fun n _ => ?_
  congr 1
  exact Fin.ext (show 1024 * s.val + n.val = n.val + 1024 * s.val by omega)

theorem hist_row (X Y : S16384.Idx → Ideal .f32) (s : Fin 16) (q : Fin 8) (i : Fin 16) :
    hist X Y (ix2 (⟨8 * s.val + q.val, by omega⟩ : Fin 128) i) = tileHist (chunk X s) (chunk Y s) (ix2 q i) := by
  have h1 : (⟨(8 * s.val + q.val) / 8, by omega⟩ : Fin 16) = s := Fin.ext (show (8 * s.val + q.val) / 8 = s.val by omega)
  have h2 : (⟨(8 * s.val + q.val) % 8, Nat.mod_lt _ (by decide)⟩ : Fin 8) = q := Fin.ext (show (8 * s.val + q.val) % 8 = q.val by omega)
  show tileHist (chunk X ⟨(8 * s.val + q.val) / 8, _⟩) (chunk Y ⟨(8 * s.val + q.val) / 8, _⟩) (ix2 (⟨(8 * s.val + q.val) % 8, _⟩ : Fin 8) i) = _
  rw [h1, h2]

/-- The number of rows in bin `i`, and the sums of the accuracies and of the confidences over them. -/
def cntOf (X : S16384.Idx → Ideal .f32) (i : Fin 16) : EReal := ∑ r : Fin 16384, memb (ix1 i) (X (ix1 r))
def sumOf (X Y : S16384.Idx → Ideal .f32) (i : Fin 16) : EReal := ∑ r : Fin 16384, memb (ix1 i) (X (ix1 r)) * Y (ix1 r)

theorem hist_cnt (X Y : S16384.Idx → Ideal .f32) (i : Fin 16) :
    ∑ s : Fin 16, hist X Y (ix2 (⟨8 * s.val + 0, by omega⟩ : Fin 128) i) = cntOf X i :=
  (Finset.sum_congr rfl fun s _ => (hist_row X Y s 0 i).trans
    ((tileHist_rows (chunk X s) (chunk Y s) i).1.trans (accs_all (chunk X s) (chunk Y s) (ix1 i)).1)).trans
    (all_rows fun r => memb (ix1 i) (X (ix1 r)))

theorem hist_acc (X Y : S16384.Idx → Ideal .f32) (i : Fin 16) :
    ∑ s : Fin 16, hist X Y (ix2 (⟨8 * s.val + 1, by omega⟩ : Fin 128) i) = sumOf X Y i :=
  (Finset.sum_congr rfl fun s _ => (hist_row X Y s 1 i).trans
    ((tileHist_rows (chunk X s) (chunk Y s) i).2.1.trans (accs_all (chunk X s) (chunk Y s) (ix1 i)).2.1)).trans
    (all_rows fun r => memb (ix1 i) (X (ix1 r)) * Y (ix1 r))

theorem hist_conf (X Y : S16384.Idx → Ideal .f32) (i : Fin 16) :
    ∑ s : Fin 16, hist X Y (ix2 (⟨8 * s.val + 2, by omega⟩ : Fin 128) i) = sumOf X X i :=
  (Finset.sum_congr rfl fun s _ => (hist_row X Y s 2 i).trans
    ((tileHist_rows (chunk X s) (chunk Y s) i).2.2.trans (accs_all (chunk X s) (chunk Y s) (ix1 i)).2.2)).trans
    (all_rows fun r => memb (ix1 i) (X (ix1 r)) * X (ix1 r))

theorem lift_lane (i : Fin 16) : reduces_S1x16_S1.lift (ix1 (0 : Fin 1)) i = ix2 (0 : Fin 1) i := by
  funext a
  match a with
  | ⟨0, _⟩ => rfl
  | ⟨1, _⟩ => rfl

theorem extract_one (u : S1.Idx → Ideal .f32) (h : S1.ShapeCasts S1x1) (h' : ∀ a, (![0, 0] : Fin S1x1.rank → ℕ) a < S1x1.size a) :
    extractAt ![0, 0] (shapeCast S1x1 u h) h' = u (ix1 (0 : Fin 1)) := by
  unfold extractAt
  exact shapeCast_apply u _ _ _ rfl

theorem lanes_sum (c p d : S16.Idx → Ideal .f32) :
    k2_pay1 (F := Ideal) c p d = ∑ i : Fin 16, Scalar.select (FloatOps.cmpf (F := Ideal) (φ := .f32) .ogt (c (ix1 i)) (Ideal.ofBits .f32 0x00000000#32))
      (max (d (ix1 i)) (-(d (ix1 i))) * p (ix1 i)) (Ideal.ofBits .f32 0x00000000#32) := by
  unfold k2_pay1
  refine (extract_one _ _ _).trans ((Ideal.multiReduction_add_single _ _ _ _ _ _).trans ?_)
  refine Finset.sum_congr rfl fun (i : Fin 16) _ => ?_
  rw [lift_lane i, row_at]
  rfl

theorem weight_at (x : S128x16.Idx → Ideal .f32) (i : Fin 16) :
    k2_pay5 (F := Ideal) x (ix1 i) = Ideal.div (k2_pay4 (F := Ideal) x (ix1 i)) (Ideal.ofBits .f32 0x46800000#32) := rfl

theorem ld_hist (x : S128x16.Idx → Ideal .f32) : View.ld (Val := Elt Ideal) (e' := .f32) x rHist = x := by
  funext j
  unfold View.ld
  show x _ = x j
  congr 1
  funext a
  match a with
  | ⟨0, _⟩ => exact Fin.ext (show 0 + 1 * (j 0).val = (j 0).val by omega)
  | ⟨1, _⟩ => exact Fin.ext (show 0 + 1 * (j 1).val = (j 1).val by omega)

/-- The kernel's result from a histogram: the gaps of the sixteen lanes. -/
theorem combine_lanes (x : S128x16.Idx → Ideal .f32) :
    combine (F := Ideal) x = ∑ i : Fin 16, gap (∑ s : Fin 16, x (ix2 (⟨8 * s.val + 0, by omega⟩ : Fin 128) i))
      (∑ s : Fin 16, x (ix2 (⟨8 * s.val + 1, by omega⟩ : Fin 128) i)) (∑ s : Fin 16, x (ix2 (⟨8 * s.val + 2, by omega⟩ : Fin 128) i)) := by
  unfold combine
  rw [ld_hist]
  refine (lanes_sum _ _ _).trans (Finset.sum_congr rfl fun i _ => ?_)
  rw [weight_at, diff_rows, cnt_rows]
  rfl

/-- The kernel's result: the gaps of the fifteen bins. -/
theorem combine_hist (X Y : S16384.Idx → Ideal .f32) :
    combine (F := Ideal) (hist X Y) = ∑ i : Fin 15, gap (cntOf X i.castSucc) (sumOf X Y i.castSucc) (sumOf X X i.castSucc) := by
  have hlast : cntOf X (Fin.last 15) = 0 := Finset.sum_eq_zero fun r _ => memb_last _
  rw [combine_lanes, Fin.sum_univ_castSucc]
  simp only [hist_cnt, hist_acc, hist_conf]
  rw [hlast, gap_zero, add_zero]

/-! ## The reference's result -/

theorem lift_bin (i : Fin 15) (r : Fin 16384) (h : Cert.ReferenceIdeal.S15x16384.Reduces [1] Cert.ReferenceIdeal.S15) : h.lift (ix1 i) r = ix2 i r := by
  funext a
  match a with
  | ⟨0, _⟩ => rfl
  | ⟨1, _⟩ => rfl

theorem rsum_at (v : Cert.ReferenceIdeal.S15x16384.Idx → Ideal .f32) (i : Fin 15) :
    Reference.rsum (F := Ideal) v (ix1 i) = ∑ r : Fin 16384, v (ix2 i r) := by
  have h : Cert.ReferenceIdeal.S15x16384.Reduces [1] Cert.ReferenceIdeal.S15 := by decide
  unfold Reference.rsum
  refine (Ideal.hostReduceAdd_single _ h v _ (ix1 i)).trans ?_
  rw [show (constant (F := Ideal) Cert.ReferenceIdeal.S_ .f32 0x00000000#32) _ = (0 : EReal) from Ideal.ofBits_zero_f32, zero_add]
  exact Finset.sum_congr rfl fun (r : Fin 16384) _ => by rw [lift_bin i r h]

theorem rcnt_at (X : S16384.Idx → Ideal .f32) (i : Fin 15) : Reference.rcnt (F := Ideal) X (ix1 i) = cntOf X i.castSucc :=
  (rsum_at _ i).trans (Finset.sum_congr rfl fun r _ => rmask_at X i r)

theorem rprod_at (X Y : S16384.Idx → Ideal .f32) (i : Fin 15) :
    Reference.rsum (F := Ideal) (mulf (Reference.rmask X) (Reference.perRow Y)) (ix1 i) = sumOf X Y i.castSucc :=
  (rsum_at _ i).trans (Finset.sum_congr rfl fun r _ => by
    show Reference.rmask (F := Ideal) X (ix2 i r) * Reference.perRow (F := Ideal) Y (ix2 i r) = _
    rw [rmask_at, perRow_at])

theorem rgap_at (X Y : S16384.Idx → Ideal .f32) (i : Fin 15) :
    Reference.rgap (F := Ideal) X Y (ix1 i) = gap (cntOf X i.castSucc) (sumOf X Y i.castSucc) (sumOf X X i.castSucc) := by
  have key : Reference.rgap (F := Ideal) X Y (ix1 i) = gap (Reference.rcnt (F := Ideal) X (ix1 i))
      (Reference.rsum (F := Ideal) (mulf (Reference.rmask X) (Reference.perRow Y)) (ix1 i))
      (Reference.rsum (F := Ideal) (mulf (Reference.rmask X) (Reference.perRow X)) (ix1 i)) := by
    unfold Reference.rgap Reference.ravg gap
    generalize Reference.rsum (F := Ideal) (mulf (Reference.rmask X) (Reference.perRow Y)) = p
    generalize Reference.rsum (F := Ideal) (mulf (Reference.rmask X) (Reference.perRow X)) = q
    generalize Reference.rcnt (F := Ideal) X = c
    rfl
  rw [key, rcnt_at, rprod_at, rprod_at]

theorem rres_at (X : Cert.ReferenceIdeal.S16384x1000.Idx → Ideal .f32) (Y : Cert.ReferenceIdeal.S16384.Idx → BitVec 32) (j : Cert.ReferenceIdeal.S1.Idx) :
    Reference.rres (F := Ideal) X Y j = combine (hist (Reference.rmax (F := Ideal) X) (Reference.racc (F := Ideal) X Y)) := by
  rw [combine_hist]
  unfold Reference.rres
  rw [shapeCast_apply _ _ j (fun a => a.elim0) (by
    have h1 : (Cert.ReferenceIdeal.S1.rowMajor j).val < 1 := (Cert.ReferenceIdeal.S1.rowMajor j).isLt
    have h2 : (Cert.ReferenceIdeal.S_.rowMajor (fun a => a.elim0)).val < 1 := (Cert.ReferenceIdeal.S_.rowMajor (fun a => a.elim0)).isLt
    omega)]
  refine (Ideal.hostReduceAdd_total _ (fun b => b.elim0) _ _ _).trans ?_
  rw [show (constant (F := Ideal) Cert.ReferenceIdeal.S_ .f32 0x00000000#32) _ = (0 : EReal) from Ideal.ofBits_zero_f32, zero_add]
  refine Eq.symm (Fintype.sum_bijective (fun i : Fin 15 => (ix1 i : Cert.ReferenceIdeal.S15.Idx))
    ⟨fun p q h => congrFun h 0, fun i => ⟨i 0, (eq_ix1 i).symm⟩⟩ _ _ fun i => (rgap_at _ _ i).symm)

end Cert.Proof.Value

end
-- ==== Proof.Value.Rows.lean ====
/-
  A row of the matrix over the extended reals: the kernel and the reference take the same largest value, and the same
  first place of it — the kernel as the least of the places that hold the largest value, the reference by one pass that
  carries the largest value so far and its place.
-/
module

public import proofs.«01_k».proof.Proof.Ref
public import proofs.«01_k».proof.Proof.Value.Trip
public import Idealize.ShloMosaic.Lib.IdealHost

@[expose] public section

noncomputable section

namespace Cert.Proof.Value

open Idealize.ShloMosaic Idealize.ShloMosaic.ValueIdx
open scoped BigOperators

/-! ## The largest value of a row -/

/-- The largest of a row's values. -/
def top (x : Fin 1000 → EReal) : EReal := Finset.univ.sup x

theorem le_top (x : Fin 1000 → EReal) (k : Fin 1000) : x k ≤ top x := Finset.le_sup (Finset.mem_univ k)

theorem top_le (x : Fin 1000 → EReal) (b : EReal) (h : ∀ k, x k ≤ b) : top x ≤ b := Finset.sup_le fun k _ => h k

theorem top_held (x : Fin 1000 → EReal) : ∃ k, x k = top x := by
  obtain ⟨k, _, hk⟩ := Finset.exists_mem_eq_sup Finset.univ ⟨(0 : Fin 1000), Finset.mem_univ _⟩ x
  exact ⟨k, hk.symm⟩

theorem low_word : Ideal.ofBits .f32 0xFF800000#32 = ⊥ := by simp [Ideal.ofBits, Ideal.ieee]

theorem kreduces : Cert.ReferenceIdeal.S16384x1000.Reduces [1] Cert.ReferenceIdeal.S16384 := by decide

theorem lift_ref (r : Fin 16384) (k : Fin 1000) : kreduces.lift (ix1 r) k = ix2 r k := by
  funext a
  match a with
  | ⟨0, _⟩ => rfl
  | ⟨1, _⟩ => rfl

theorem lift_blk (r : Fin 512) (k : Fin 1000) : Cert.KernelIdeal.Gen.reduces_S512x1000_S512.lift (ix1 r) k = ix2 r k := by
  funext a
  match a with
  | ⟨0, _⟩ => rfl
  | ⟨1, _⟩ => rfl

theorem rmax_at (X : Cert.ReferenceIdeal.S16384x1000.Idx → Ideal .f32) (r : Fin 16384) :
    Reference.rmax (F := Ideal) X (ix1 r) = top fun k => X (ix2 r k) := by
  unfold Reference.rmax
  rw [Host.reduce_eq_fold, Shape.ReducesTo.drop_eq_drop _ kreduces, kreduces.fold_filter_drop_single]
  rw [show (constant (F := Ideal) Cert.ReferenceIdeal.S_ .f32 0xFF800000#32) _ = (⊥ : EReal) from low_word]
  have e : X ∘ kreduces.lift (ix1 r) = fun k : Fin 1000 => X (ix2 r k) := funext fun k => congrArg X (lift_ref r k)
  rw [e]
  rfl

theorem kmax_at (v : Cert.KernelIdeal.S512x1000.Idx → Ideal .f32) (r : Fin 512) :
    Cert.KernelIdeal.Gen.k0_pay1 (F := Ideal) v (ix1 r) = top fun k => v (ix2 r k) := by
  unfold Cert.KernelIdeal.Gen.k0_pay1
  refine (Ideal.multiReduction_maximumf_single _ _ _ _ _ _).trans ?_
  rw [show (FloatOps.ofBits (F := Ideal) .f32 0xFF800000#32) = (⊥ : EReal) from low_word]
  have e : v ∘ Cert.KernelIdeal.Gen.reduces_S512x1000_S512.lift (ix1 r) = fun k : Fin 1000 => v (ix2 r k) := funext fun k => congrArg v (lift_blk r k)
  rw [e]
  rfl

/-! ## Its first place -/

/-- `b` is the first place that holds the row's largest value. -/
def IsFirst (x : Fin 1000 → EReal) (b : BitVec 32) : Prop :=
  ∃ k : Fin 1000, b = BitVec.ofNat 32 k.val ∧ x k = top x ∧ ∀ k' : Fin 1000, x k' = top x → k ≤ k'

theorem IsFirst.unique {x : Fin 1000 → EReal} {b b' : BitVec 32} (h : IsFirst x b) (h' : IsFirst x b') : b = b' := by
  obtain ⟨k, rfl, hk, hl⟩ := h
  obtain ⟨k', rfl, hk', hl'⟩ := h'
  rw [le_antisymm (hl k' hk') (hl' k hk)]

theorem place_toInt (k : Fin 1000) : (BitVec.ofNat 32 k.val).toInt = (k.val : ℤ) := by
  have hk := k.isLt
  rw [BitVec.toInt_eq_toNat_of_lt (by rw [BitVec.toNat_ofNat]; omega), BitVec.toNat_ofNat]
  omega

/-! ### The reference's pass -/

/-- `q` comes after `r` in the reference's order: its value is below, or it is the same and its place not before. -/
def After (q r : EReal × BitVec 32) : Prop := q.1 < r.1 ∨ (q.1 = r.1 ∧ r.2.toInt ≤ q.2.toInt)

theorem After.refl (q : EReal × BitVec 32) : After q q := Or.inr ⟨rfl, le_rfl⟩

theorem After.trans {p q r : EReal × BitVec 32} (h : After p q) (h' : After q r) : After p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi'.trans hi⟩

/-- One step of the pass keeps one of the two pairs, and both come after it. -/
theorem step_spec (a b : EReal × BitVec 32) :
    (Cert.ReferenceIdeal.reducer_argmax_f32_i32 (F := Ideal) a b = a ∨ Cert.ReferenceIdeal.reducer_argmax_f32_i32 (F := Ideal) a b = b)
      ∧ After a (Cert.ReferenceIdeal.reducer_argmax_f32_i32 (F := Ideal) a b) ∧ After b (Cert.ReferenceIdeal.reducer_argmax_f32_i32 (F := Ideal) a b) := by
  obtain ⟨x, i⟩ := a
  obtain ⟨y, j⟩ := b
  have key : Cert.ReferenceIdeal.reducer_argmax_f32_i32 (F := Ideal) (x, i) (y, j)
      = (if y < x then x else y, if y < x ∨ (x = y ∧ i.toInt < j.toInt) then i else j) := by
    unfold Cert.ReferenceIdeal.reducer_argmax_f32_i32
    simp only [Ideal.cmpf_def, Ideal.cmp, IntOp.cmpi, IntOp.ori, IntOp.andi, Scalar.select, BitVec.slt]
    by_cases h1 : y < x <;> by_cases h2 : x = y <;> by_cases h3 : i.toInt < j.toInt <;> simp [h1, h2, h3]
  rw [key]
  rcases lt_trichotomy x y with h | rfl | h
  · rw [if_neg (not_lt.mpr h.le), if_neg (by rintro (h' | ⟨h', _⟩); exacts [absurd h (not_lt.mpr h'.le), absurd h' h.ne])]
    exact ⟨Or.inr rfl, Or.inl h, After.refl _⟩
  · rw [if_neg (lt_irrefl _)]
    by_cases hi : i.toInt < j.toInt
    · rw [if_pos (Or.inr ⟨rfl, hi⟩)]
      exact ⟨Or.inl rfl, After.refl _, Or.inr ⟨rfl, hi.le⟩⟩
    · rw [if_neg (by rintro (h' | ⟨_, h'⟩); exacts [absurd h' (lt_irrefl _), hi h'])]
      exact ⟨Or.inr rfl, Or.inr ⟨rfl, not_lt.mp hi⟩, After.refl _⟩
  · rw [if_pos h, if_pos (Or.inl h)]
    exact ⟨Or.inl rfl, After.refl _, Or.inl h⟩

/-- The whole pass keeps one of its pairs, and all of them come after it. -/
theorem pass_spec (l : List (EReal × BitVec 32)) : ∀ a : EReal × BitVec 32,
    l.foldl (Cert.ReferenceIdeal.reducer_argmax_f32_i32 (F := Ideal)) a ∈ a :: l
      ∧ ∀ q ∈ a :: l, After q (l.foldl (Cert.ReferenceIdeal.reducer_argmax_f32_i32 (F := Ideal)) a) := by
  induction l with
  | nil => intro a; exact ⟨List.mem_singleton.mpr rfl, fun q hq => by rw [List.mem_singleton.mp hq]; exact After.refl _⟩
  | cons b l ih =>
    intro a
    obtain ⟨hm, ha, hb⟩ := step_spec a b
    obtain ⟨ihm, iha⟩ := ih (Cert.ReferenceIdeal.reducer_argmax_f32_i32 (F := Ideal) a b)
    rw [List.foldl_cons]
    refine ⟨?_, fun q hq => ?_⟩
    · rcases List.mem_cons.mp ihm with h | h
      · rw [h]
        rcases hm with h | h <;> rw [h]
        · exact List.mem_cons_self
        · exact List.mem_cons_of_mem _ List.mem_cons_self
      · exact List.mem_cons_of_mem _ (List.mem_cons_of_mem _ h)
    · rcases List.mem_cons.mp hq with rfl | hq
      · exact ha.trans (iha _ List.mem_cons_self)
      · rcases List.mem_cons.mp hq with rfl | hq
        · exact hb.trans (iha _ List.mem_cons_self)
        · exact iha q (List.mem_cons_of_mem _ hq)

/-- A pass over a row's values and places, from the least value at place zero, ends at the first place of the largest. -/
theorem pass_first (x : Fin 1000 → EReal) (l : List (EReal × BitVec 32))
    (hl : ∀ p, p ∈ l ↔ ∃ k : Fin 1000, p = (x k, BitVec.ofNat 32 k.val)) :
    IsFirst x (l.foldl (Cert.ReferenceIdeal.reducer_argmax_f32_i32 (F := Ideal)) (⊥, 0#32)).2 := by
  obtain ⟨hm, ha⟩ := pass_spec l (⊥, 0#32)
  generalize l.foldl (Cert.ReferenceIdeal.reducer_argmax_f32_i32 (F := Ideal)) (⊥, 0#32) = r at hm ha
  have hall : ∀ k, After (x k, BitVec.ofNat 32 k.val) r := fun k => ha _ (List.mem_cons_of_mem _ ((hl _).mpr ⟨k, rfl⟩))
  have htop : top x ≤ r.1 := top_le x r.1 fun k => by
    rcases hall k with h | ⟨h, _⟩
    · exact h.le
    · exact h.le
  rcases List.mem_cons.mp hm with rfl | h
  · have hbot : top x = ⊥ := le_bot_iff.mp htop
    exact ⟨0, rfl, le_bot_iff.mp (hbot ▸ le_top x 0) |>.trans hbot.symm, fun k' _ => Fin.zero_le k'⟩
  · obtain ⟨k, rfl⟩ := (hl r).mp h
    have hk : x k = top x := le_antisymm (le_top x k) htop
    refine ⟨k, rfl, hk, fun k' hk' => ?_⟩
    rcases hall k' with h | ⟨_, h⟩
    · exact absurd (hk'.trans hk.symm) h.ne
    · have h' : (BitVec.ofNat 32 k.val).toInt ≤ (BitVec.ofNat 32 k'.val).toInt := h
      rw [place_toInt, place_toInt] at h'
      exact Fin.le_def.mpr (by exact_mod_cast h')

/-- The pairs a reduction along one axis passes over: one per coordinate of that axis. -/
theorem mem_fiber {s t : Shape} {a : Fin s.rank} {α β : Type} (h' : s.ReducesTo [a] t) (h : s.Reduces [a] t) (x : s.Idx → α) (y : s.Idx → β) (j : t.Idx) (p : α × β) :
    p ∈ Host.argReduceFiber x y h' j ↔ ∃ k : Fin (s.size a), p = (x (h.lift j k), y (h.lift j k)) := by
  unfold Host.argReduceFiber
  rw [List.mem_map]
  constructor
  · rintro ⟨n, hn, rfl⟩
    rw [List.mem_filter] at hn
    have hd : h.drop (s.rowMajor.symm n) = j := of_decide_eq_true hn.2
    refine ⟨(s.rowMajor.symm n) a, ?_⟩
    rw [← hd, h.lift_drop]
  · rintro ⟨k, rfl⟩
    refine ⟨s.rowMajor (h.lift j k), ?_, ?_⟩
    · rw [List.mem_filter]
      refine ⟨List.mem_finRange _, decide_eq_true ?_⟩
      rw [Equiv.symm_apply_apply, Shape.ReducesTo.drop_eq_drop h' h]
      exact h.drop_lift _ _
    · rw [Equiv.symm_apply_apply]

/-- The reduction that carries the largest value and its place, along an axis of 1000 places. -/
theorem arg_first {s t u : Shape} {a : Fin s.rank} (h' : s.ReducesTo [a] t) (h : s.Reduces [a] t) (hu : 0 < u.numel) (X : s.Idx → Ideal .f32) (P : s.Idx → BitVec 32)
    (e : u.Idx → Ideal .f32) (z : u.Idx → BitVec 32) (j : t.Idx) (he : ∀ i, e i = (⊥ : EReal)) (hz : ∀ i, z i = 0#32) (hs : s.size a = 1000)
    (hP : ∀ k : Fin (s.size a), P (h.lift j k) = BitVec.ofNat 32 k.val) :
    IsFirst (fun k => X (h.lift j (k.cast hs.symm)))
      (Host.argReduce (Cert.ReferenceIdeal.reducer_argmax_f32_i32 (F := Ideal)) X P e z h' hu j).2 := by
  rw [Ideal.argReduce_eq_reduce2, Host.reduce2_eq_foldl_fiber, he, hz]
  refine pass_first _ _ fun p => (mem_fiber _ h _ _ _ p).trans ⟨?_, ?_⟩
  · rintro ⟨k, rfl⟩
    exact ⟨k.cast hs, by rw [hP]; rfl⟩
  · rintro ⟨k, rfl⟩
    exact ⟨k.cast hs.symm, by rw [hP]; rfl⟩

theorem first_place (X : Cert.ReferenceIdeal.S16384x1000.Idx → Ideal .f32) (r : Fin 16384) :
    IsFirst (fun k : Fin 1000 => X (kreduces.lift (ix1 r) k))
      (Host.argReduce (Cert.ReferenceIdeal.reducer_argmax_f32_i32 (F := Ideal)) X (iotaInDim Cert.ReferenceIdeal.S16384x1000 32 1)
        (constant Cert.ReferenceIdeal.S_ .f32 0xFF800000#32) (constantI Cert.ReferenceIdeal.S_ 32 0#32)
        Cert.ReferenceIdeal.Gen.reducesTo_S16384x1000_S16384_d1 Cert.ReferenceIdeal.Gen.h_S_ (ix1 r)).2 :=
  arg_first _ kreduces _ X _ _ _ _ (fun _ => low_word) (fun _ => rfl) rfl (fun k => by rw [lift_ref r k]; rfl)

theorem rarg_eq {F : FTy → Type} [FloatOps F] (X : Cert.ReferenceIdeal.S16384x1000.Idx → F .f32) :
    Reference.rarg (F := F) X = fun j => (Host.argReduce (Cert.ReferenceIdeal.reducer_argmax_f32_i32 (F := F)) X (iotaInDim Cert.ReferenceIdeal.S16384x1000 32 1)
      (constant Cert.ReferenceIdeal.S_ .f32 0xFF800000#32) (constantI Cert.ReferenceIdeal.S_ 32 0#32)
      Cert.ReferenceIdeal.Gen.reducesTo_S16384x1000_S16384_d1 Cert.ReferenceIdeal.Gen.h_S_ j).2 := rfl

theorem rarg_first (X : Cert.ReferenceIdeal.S16384x1000.Idx → Ideal .f32) (r : Fin 16384) :
    IsFirst (fun k => X (ix2 r k)) (Reference.rarg (F := Ideal) X (ix1 r)) := by
  rw [rarg_eq]
  have h := first_place X r
  rw [show (fun k : Fin 1000 => X (kreduces.lift (ix1 r) k)) = fun k => X (ix2 r k) from funext fun k => congrArg X (lift_ref r k)] at h
  exact h

/-! ### The kernel's least place -/

theorem least_spec (f : Fin 1000 → BitVec 32) (a : BitVec 32) :
    (Finset.univ.fold IKind.minsi.op a f = a ∨ ∃ k, Finset.univ.fold IKind.minsi.op a f = f k)
      ∧ ∀ k, (Finset.univ.fold IKind.minsi.op a f).toInt ≤ (f k).toInt := by
  have key : ∀ s : Finset (Fin 1000), (s.fold IKind.minsi.op a f = a ∨ ∃ k, s.fold IKind.minsi.op a f = f k)
      ∧ ∀ k ∈ s, (s.fold IKind.minsi.op a f).toInt ≤ (f k).toInt := by
    intro s
    induction s using Finset.induction_on with
    | empty => exact ⟨Or.inl rfl, fun k hk => absurd hk (Finset.notMem_empty k)⟩
    | insert b s hb ih =>
      rw [Finset.fold_insert hb]
      have hop : ∀ u v : BitVec 32, IKind.minsi.op u v = if u.toInt < v.toInt then u else v := fun u v => by
        show (if u.slt v then u else v) = _
        simp only [BitVec.slt, decide_eq_true_eq]
      rw [hop]
      by_cases h : (f b).toInt < (s.fold IKind.minsi.op a f).toInt
      · rw [if_pos h]
        refine ⟨Or.inr ⟨b, rfl⟩, fun k hk => ?_⟩
        rcases Finset.mem_insert.mp hk with rfl | hk
        · exact le_rfl
        · exact h.le.trans (ih.2 k hk)
      · rw [if_neg h]
        refine ⟨ih.1, fun k hk => ?_⟩
        rcases Finset.mem_insert.mp hk with rfl | hk
        · exact not_lt.mp h
        · exact ih.2 k hk
  exact ⟨(key Finset.univ).1, fun k => (key Finset.univ).2 k (Finset.mem_univ k)⟩

/-- The least of the places that hold the largest value, the others' made 1000, is its first place. -/
theorem least_first (x : Fin 1000 → EReal) :
    IsFirst x (Finset.univ.fold IKind.minsi.op 2147483647#32 fun k : Fin 1000 => if x k = top x then BitVec.ofNat 32 k.val else 1000#32) := by
  obtain ⟨hm, hle⟩ := least_spec (fun k : Fin 1000 => if x k = top x then BitVec.ofNat 32 k.val else 1000#32) 2147483647#32
  generalize Finset.univ.fold IKind.minsi.op 2147483647#32 (fun k : Fin 1000 => if x k = top x then BitVec.ofNat 32 k.val else 1000#32) = r at hm hle
  have hmax : ∀ k, x k = top x → r.toInt ≤ (k.val : ℤ) := fun k hk => by
    have h := hle k
    simp only [if_pos hk, place_toInt] at h
    exact h
  obtain ⟨k₀, hk₀⟩ := top_held x
  have h₀ := hmax k₀ hk₀
  have hlt := k₀.isLt
  rcases hm with rfl | ⟨k, rfl⟩
  · have e : (2147483647#32 : BitVec 32).toInt = 2147483647 := by decide
    omega
  · by_cases hk : x k = top x
    · simp only [if_pos hk, place_toInt] at hmax ⊢
      exact ⟨k, rfl, hk, fun k' hk' => Fin.le_def.mpr (by exact_mod_cast hmax k' hk')⟩
    · simp only [if_neg hk] at h₀
      have e : (1000#32 : BitVec 32).toInt = 1000 := by decide
      omega

/-- The place the kernel takes for each row of its block. -/
def kplace (v : Cert.KernelIdeal.S512x1000.Idx → Ideal .f32) : Cert.KernelIdeal.S512.Idx → BitVec 32 :=
  multiReductionI .minsi [1] Cert.KernelIdeal.S512 (select (cmpf .oeq v (broadcastTo Cert.KernelIdeal.S512x1000
      (shapeCast Cert.KernelIdeal.S512x1 (Cert.KernelIdeal.Gen.k0_pay1 (F := Ideal) v) Cert.KernelIdeal.Gen.shapeCasts_S512_S512x1) Cert.KernelIdeal.Gen.broadcasts_S512x1_S512x1000))
    (iota .tc Cert.KernelIdeal.S512x1000 32 [1] Cert.KernelIdeal.Gen.iota_S512x1000_d1_w32) (broadcast Cert.KernelIdeal.S512x1000 1000#32)) 2147483647#32 Cert.KernelIdeal.Gen.reduces_S512x1000_S512 rfl

theorem spread_at (u : Cert.KernelIdeal.S512.Idx → Ideal .f32) (r : Fin 512) (k : Fin 1000) :
    broadcastTo Cert.KernelIdeal.S512x1000 (shapeCast Cert.KernelIdeal.S512x1 u Cert.KernelIdeal.Gen.shapeCasts_S512_S512x1) Cert.KernelIdeal.Gen.broadcasts_S512x1_S512x1000 (ix2 r k)
      = u (ix1 r) := by
  rw [broadcastTo_apply _ _ _ (ix2 r (0 : Fin 1)) (fun a => by match a with | ⟨0, _⟩ => rfl | ⟨1, _⟩ => rfl)]
  refine shapeCast_apply u _ _ _ ?_
  rw [Shape.rowMajor_val_one, Shape.rowMajor_val_two]
  show r.val = r.val * 1 + 0
  omega

theorem kplace_first (v : Cert.KernelIdeal.S512x1000.Idx → Ideal .f32) (r : Fin 512) : IsFirst (fun k => v (ix2 r k)) (kplace v (ix1 r)) := by
  unfold kplace
  refine Eq.mpr (congrArg (IsFirst _) ((multiReductionI_eq_fold _ _ _ _ _ _).trans
    (Shape.Reduces.fold_filter_drop_single Cert.KernelIdeal.Gen.reduces_S512x1000_S512 _ _ _ _))) ?_
  have h := least_first fun k => v (ix2 r k)
  refine Eq.mp (congrArg (IsFirst _) (congrArg (Finset.univ.fold IKind.minsi.op 2147483647#32) (funext fun (k : Fin 1000) => ?_))) h
  show _ = select _ _ _ (Cert.KernelIdeal.Gen.reduces_S512x1000_S512.lift (ix1 r) k)
  rw [lift_blk r k, select_apply, cmpf_apply, spread_at, kmax_at]
  show _ = Scalar.select (BitVec.ofBool (decide (v (ix2 r k) = top fun k => v (ix2 r k)))) (BitVec.ofNat 32 (0 * 1000 + k.val)) 1000#32
  rw [Nat.zero_mul, Nat.zero_add]
  by_cases hk : v (ix2 r k) = top fun k => v (ix2 r k)
  · rw [if_pos hk, decide_eq_true hk]; rfl
  · rw [if_neg hk, decide_eq_false hk]; rfl

/-! ## A block against its rows of the matrix -/

/-- A block whose row `r` is the matrix's row `R`: the largest value is the reference's. -/
theorem block_max (v : Cert.KernelIdeal.S512x1000.Idx → Ideal .f32) (X : Cert.ReferenceIdeal.S16384x1000.Idx → Ideal .f32) (r : Fin 512) (R : Fin 16384)
    (h : ∀ k : Fin 1000, v (ix2 r k) = X (ix2 R k)) : Cert.KernelIdeal.Gen.k0_pay1 (F := Ideal) v (ix1 r) = Reference.rmax (F := Ideal) X (ix1 R) := by
  rw [kmax_at, rmax_at]
  exact congrArg top (funext h)

/-- And its first place is the reference's. -/
theorem block_place (v : Cert.KernelIdeal.S512x1000.Idx → Ideal .f32) (X : Cert.ReferenceIdeal.S16384x1000.Idx → Ideal .f32) (r : Fin 512) (R : Fin 16384)
    (h : ∀ k : Fin 1000, v (ix2 r k) = X (ix2 R k)) : kplace v (ix1 r) = Reference.rarg (F := Ideal) X (ix1 R) := by
  have h1 := kplace_first v r
  rw [show (fun k => v (ix2 r k)) = fun k => X (ix2 R k) from funext h] at h1
  exact h1.unique (rarg_first X R)

end Cert.Proof.Value

end
-- ==== Proof.Value.Arr.lean ====
/-
  The arrays the calls leave, as functions of the arguments: the first call's blocks of 512 rows tile the rows, so its
  two results are every row's largest value and whether its first place is the label; the last call's one block is its
  whole result.
-/
module

public import proofs.«01_k».proof.Proof.Value.Combine
public import proofs.«01_k».proof.Proof.Value.Rows
public import proofs.«01_k».proof.Proof.KernelIdeal.Launch
public import Idealize.ShloMosaic.Lib.Pipeline.ValueKit

@[expose] public section

-- whether an index lies in a rectangle is decided along the long axes
set_option maxRecDepth 16384

noncomputable section

namespace Cert.Proof.Value

open Cert.KernelIdeal Cert.KernelIdeal.Gen Cert.Proof.KernelIdealRun
open Idealize.ShloMosaic hiding ix1 ix2 ix3 eq_ix1 eq_ix2 eq_ix3
open Idealize.ShloMosaic.TcCoe Idealize.ShloMosaic.ValueIdx
open Idealize.ShloMosaic.Pipeline (Dat)

/-! ## What a block's body leaves -/

theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

theorem flat_at {α : Type} (v : S512.Idx → α) (r : Fin 512) : shapeCast S1x1x512 v shapeCasts_S512_S1x1x512 (ix3 (0 : Fin 1) (0 : Fin 1) r) = v (ix1 r) := by
  refine shapeCast_apply v _ _ _ ?_
  rw [Shape.rowMajor_val_one, Shape.rowMajor_val_three]
  show r.val = (0 * 1 + 0) * 512 + r.val
  omega

theorem unflat_at {α : Type} (v : S1x1x512.Idx → α) (r : Fin 512) : shapeCast S512 v shapeCasts_S1x1x512_S512 (ix1 r) = v (ix3 (0 : Fin 1) (0 : Fin 1) r) := by
  refine shapeCast_apply v _ _ _ ?_
  rw [Shape.rowMajor_val_one, Shape.rowMajor_val_three]
  show (0 * 1 + 0) * 512 + r.val = r.val
  omega

theorem bit_word (b : BitVec 1) : (((b.setWidth 32).toInt : ℝ) : EReal) = ((b.toNat : ℝ) : EReal) := by
  rcases BitVec.eq_zero_or_eq_one b with rfl | rfl
  · rfl
  · have h : ((1#1 : BitVec 1).setWidth 32).toInt = 1 := by decide
    rw [h]
    norm_num

theorem out_conf (v : S512x1000.Idx → Ideal .f32) (r : Fin 512) :
    out0_2 (F := Ideal) v (ix3 (0 : Fin 1) (0 : Fin 1) r) = k0_pay1 (F := Ideal) v (ix1 r) := by
  unfold out0_2
  rw [View.canon_unit_zero zero3, View.ld_unit_zero zero2]
  unfold k0_pay2
  exact flat_at _ r

theorem out_acc (v : S512x1000.Idx → Ideal .f32) (y : S1x1x512.Idx → BitVec 32) (r : Fin 512) :
    out0_3 (F := Ideal) v y (ix3 (0 : Fin 1) (0 : Fin 1) r)
      = (((IntOp.cmpi .eq (kplace v (ix1 r)) (y (ix3 (0 : Fin 1) (0 : Fin 1) r))).toNat : ℝ) : EReal) := by
  unfold out0_3
  rw [View.canon_unit_zero zero3, View.ld_unit_zero zero2, View.ld_unit_zero zero3]
  unfold k0_pay3
  refine (flat_at _ r).trans ?_
  refine Eq.trans ?_ (bit_word _)
  rw [← unflat_at y r]
  rfl

/-! ## The first call -/

/-- The row that entry `j` of block `t` stands for. -/
def rowOf (i : S32x1x512.Idx) : Fin 16384 := ⟨512 * (i 0).val + (i 2).val, by
  have h0 : (i 0).val < 32 := (i 0).isLt
  have h2 : (i 2).val < 512 := (i 2).isLt
  omega⟩

theorem index0_0 : ∀ t : Fin cfg0.N, win0_0.index t = ![t.val, 0] := by decide +kernel
theorem index0_1 : ∀ t : Fin cfg0.N, win0_1.index t = ![t.val, 0, 0] := by decide +kernel
theorem index0_2 : ∀ t : Fin cfg0.N, win0_2.index t = ![t.val, 0, 0] := by decide +kernel
theorem index0_3 : ∀ t : Fin cfg0.N, win0_3.index t = ![t.val, 0, 0] := by decide +kernel

variable (m : (ℓ : Loc nD τ sig) → Buf (Elt Ideal) ℓ) (c : Dev nD)

/-- The arguments. -/
abbrev argX : S16384x1000.Idx → Ideal .f32 := at₀ m c main_arg0
abbrev argY : S16384.Idx → BitVec 32 := at₀ m c main_arg1

/-- An entry of a block is one of its 512. -/
theorem entry (y : S1x1x512.Idx) : ∃ r : Fin 512, y = ix3 (0 : Fin 1) (0 : Fin 1) r :=
  ⟨y 2, funext fun a => by
    match a with
    | ⟨0, _⟩ => exact Subsingleton.elim (α := Fin 1) _ _
    | ⟨1, _⟩ => exact Subsingleton.elim (α := Fin 1) _ _
    | ⟨2, _⟩ => rfl⟩

/-- Entry `r` of the block at point `t` stands for row `512 t + r`. -/
def rowAt (t : Fin cfg0.N) (r : Fin 512) : Fin 16384 := ⟨512 * t.val + r.val, by
  have ht : t.val < cfg0.N := t.isLt
  have hN : cfg0.N = 32 := N_0
  omega⟩

theorem rowOf_2 (t : Fin cfg0.N) (r : Fin 512) : rowOf ((win0_2.blk t).view.emb (ix3 (0 : Fin 1) (0 : Fin 1) r)) = rowAt t r := by
  refine Fin.ext ?_
  unfold rowOf rowAt
  blk_simp [index0_2]

theorem rowOf_3 (t : Fin cfg0.N) (r : Fin 512) : rowOf ((win0_3.blk t).view.emb (ix3 (0 : Fin 1) (0 : Fin 1) r)) = rowAt t r := by
  refine Fin.ext ?_
  unfold rowOf rowAt
  blk_simp [index0_3]

/-- The block of the matrix the first call reads at point `t`. -/
theorem block_row (t : Fin cfg0.N) (r : Fin 512) (k : Fin 1000) : iblk0 (A0 m) c 0 t (ix2 r k) = argX m c (ix2 (rowAt t r) k) := by
  unfold iblk0
  blk_simp
  show argX m c _ = _
  congr 1
  funext a
  refine Fin.ext ?_
  match a with
  | ⟨0, _⟩ =>
    unfold rowAt
    blk_simp [index0_0]
    show t.val * 512 + r.val = 512 * t.val + r.val
    omega
  | ⟨1, _⟩ =>
    blk_simp [index0_0]

/-- And the labels it reads there. -/
theorem block_label (t : Fin cfg0.N) (r : Fin 512) : iblk0 (A0 m) c 1 t (ix3 (0 : Fin 1) (0 : Fin 1) r) = argY m c (ix1 (rowAt t r)) := by
  unfold iblk0
  blk_simp
  show lab m c _ = _
  unfold lab
  refine shapeCast_apply (argY m c) _ _ (ix1 (rowAt t r) : S16384.Idx) ?_
  rw [Shape.rowMajor_val_three]
  refine (Shape.rowMajor_val_one _).trans ?_
  unfold rowAt
  blk_simp [index0_1]
  show 512 * t.val + r.val = t.val * 512 + r.val
  omega

theorem confA_eq : confA m c = fun i => Reference.rmax (F := Ideal) (argX m c) (ix1 (rowOf i)) := by
  unfold confA
  refine (dat0 (A0 m) c).arrAt_eq_of_covers 2 _ (by decide +kernel) fun t hf y => ?_
  blk_simp
  rw [after0_2]
  obtain ⟨r, hr⟩ := entry y
  subst hr
  rw [rowOf_2]
  exact (out_conf _ r).trans (block_max _ _ r _ fun k => block_row m c t r k)

theorem accA_eq : accA m c = fun i => Reference.racc (F := Ideal) (argX m c) (argY m c) (ix1 (rowOf i)) := by
  unfold accA
  refine (dat0 (A0 m) c).arrAt_eq_of_covers 3 _ (by decide +kernel) fun t hf y => ?_
  blk_simp
  rw [after0_3]
  obtain ⟨r, hr⟩ := entry y
  subst hr
  rw [rowOf_3]
  refine (out_acc _ _ r).trans ?_
  rw [block_place _ (argX m c) r (rowAt t r) fun k => block_row m c t r k, block_label]
  rfl

theorem unroll_at {α : Type} (g : Fin 16384 → α) (r : Fin 16384) :
    shapeCast S16384 (fun i : S32x1x512.Idx => g (rowOf i)) shapeCasts_S32x1x512_S16384 (ix1 r) = g r := by
  have hr := r.isLt
  refine (shapeCast_apply _ _ _ (ix3 (⟨r.val / 512, by omega⟩ : Fin 32) (0 : Fin 1) (⟨r.val % 512, by omega⟩ : Fin 512)) ?_).trans ?_
  · rw [Shape.rowMajor_val_one, Shape.rowMajor_val_three]
    show (r.val / 512 * 1 + 0) * 512 + r.val % 512 = r.val
    omega
  · congr 1
    exact Fin.ext (show 512 * (r.val / 512) + r.val % 512 = r.val by omega)

theorem confX_eq : confX m c = Reference.rmax (F := Ideal) (argX m c) := by
  unfold confX
  rw [confA_eq]
  funext i
  rw [eq_ix1 i]
  exact unroll_at (fun r => Reference.rmax (F := Ideal) (argX m c) (ix1 r)) (i 0)

theorem accX_eq : accX m c = Reference.racc (F := Ideal) (argX m c) (argY m c) := by
  unfold accX
  rw [accA_eq]
  funext i
  rw [eq_ix1 i]
  exact unroll_at (fun r => Reference.racc (F := Ideal) (argX m c) (argY m c) (ix1 r)) (i 0)

/-! ## The last call -/

theorem zero1 : (![0] : Fin 1 → ℕ) = fun _ => 0 := funext fun a => by match a with | ⟨0, _⟩ => rfl

theorem res_eq : res m c = fun _ => combine (F := Ideal) (hist (confX m c) (accX m c)) := by
  unfold res
  refine (dat2 (A2 m) c).arrAt_eq_of_covers 1 _ (by decide +kernel) fun t hf y => ?_
  blk_simp
  rw [after2_1]
  unfold out2_1
  rw [View.canon_unit_zero zero1]
  congr 1
  unfold iblk2
  funext j
  blk_simp
  show hist (confX m c) (accX m c) _ = _
  congr 1
  funext a
  refine Fin.ext ?_
  blk_simp
  have h0 : win2_0.index t a = 0 := rfl
  rw [h0]
  omega

end Cert.Proof.Value

end
-- ==== Proof.Value.lean ====
/-
  From the same arguments the idealized kernel and the reference end with the same result: both are the last stage's
  value at the histogram of the rows' largest values and of the hits of their first places.
-/
module

public import proofs.«01_k».proof.Defs
public import proofs.«01_k».proof.Proof.Ref
public import proofs.«01_k».proof.Proof.Value.Arr

@[expose] public section

noncomputable section

namespace Cert.Proof

open Idealize.ShloMosaic Idealize.SL.Sem

/-- The reference's result at the kernel's arguments is the kernel's. -/
theorem rres_eq_res (m : (ℓ : Loc Cert.KernelIdeal.nD Cert.KernelIdeal.τ Cert.KernelIdeal.sig) → Buf (Elt Ideal) ℓ)
    (c : Dev Cert.KernelIdeal.nD) :
    Reference.rres (F := Ideal) (Value.argX m c) (Value.argY m c) = KernelIdealRun.res (F := Ideal) m c := by
  funext j
  rw [Value.res_eq, Value.confX_eq, Value.accX_eq]
  exact Value.rres_at _ _ j

theorem algebraic : Cert.algebraic_KernelIdeal_ReferenceIdeal := by
  intro m g m' g' _ hagree
  refine ⟨fun c => KernelIdealRun.res (F := Ideal) m c,
    (θ_run Cert.KernelIdeal.defs _ _).mono (fun _ h c => ⟨(h.1 c).2.2, (h.1 c).1, (h.1 c).2.1⟩)
      (KernelIdealRun.run_main (F := Ideal) m g),
    (θ_run Cert.ReferenceIdeal.defs _ _).mono (fun _ h c => ⟨(h c).1.trans ?_, (h c).2⟩) (Reference.run (F := Ideal) m' g')⟩
  rw [(hagree c).1, (hagree c).2]
  exact rres_eq_res m c

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_kernelIdeal, Reference.frame, preserves, algebraic⟩

end Cert.Proof

end
